-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v77) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x32x256 : Shape := ⟨3, ![1024, 32, 256]⟩
abbrev S8192x1024 : Shape := ⟨2, ![8192, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S1024x8192 : Shape := ⟨2, ![1024, 8192]⟩
abbrev S8192 : Shape := ⟨1, ![8192]⟩
abbrev S8x1024x256 : Shape := ⟨3, ![8, 1024, 256]⟩
abbrev S_ : Shape := ⟨0, ![]⟩

class Facts : Prop where
  bcast_S_S1024x32x256 : S_.BroadcastsInDim S1024x32x256 (![] : Fin 0 → Fin S1024x32x256.rank)
  reducesTo_S1024x32x256_S_d0_1_2 : S1024x32x256.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S8x1024x256 : S_.BroadcastsInDim S8x1024x256 (![] : Fin 0 → Fin S8x1024x256.rank)
  reducesTo_S8x1024x256_S_d0_1_2 : S8x1024x256.ReducesTo [0, 1, 2] S_

variable [Facts]

def fn_part1 {F : FTy → Type} [FloatOps F] (main_arg4 : FVec F S256 .f32) (main_arg9 : FVec F S8x1024x256 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S8x1024x256 .f32 := Host.absf main_arg9
  let main_cst_8 : FVec F S_ .f32 := constant S_ .f32 0x7F800000#32
  let main_v25 : FVec F S8x1024x256 .f32 := broadcastInDim S8x1024x256 ![] bcast_S_S8x1024x256 main_cst_8
  let main_v26 : IVec S8x1024x256 1 := cmpf .olt main_v24 main_v25
  let main_c_9 : IVec S_ 1 := constantI S_ 1 1#1
  let main_v27 : IVec S_ 1 := (fun x v => Host.reduce IntOp.andi x v reducesTo_S8x1024x256_S_d0_1_2 h_S_) main_v26 main_c_9
  let main_v28 : IVec S_ 1 := andi main_v23 main_v27
  main_v28

def fn {F : FTy → Type} [FloatOps F] (main_arg0 : FVec F S1024x32x256 .f32) (main_arg1 : FVec F S8192x1024 .f32) (main_arg2 : FVec F S1024 .f32) (main_arg3 : FVec F S1024x256 .f32) (main_arg4 : FVec F S256 .f32) (main_arg5 : FVec F S256x1024 .f32) (main_arg6 : FVec F S1024 .f32) (main_arg7 : FVec F S1024x8192 .f32) (main_arg8 : FVec F S8192 .f32) (main_arg9 : FVec F S8x1024x256 .f32) : IVec S_ 1 :=
  let main_v0 : FVec F S1024x32x256 .f32 := Host.absf main_arg0
  let main_cst : FVec F S_ .f32 := constant S_ .f32 0x7F800000#32
  let main_v1 : FVec F S1024x32x256 .f32 := broadcastInDim S1024x32x256 ![] bcast_S_S1024x32x256 main_cst
  let main_v2 : IVec S1024x32x256 1 := cmpf .olt main_v0 main_v1
  let main_c : IVec S_ 1 := constantI S_ 1 1#1
  let main_v3 : IVec S_ 1 := (fun x v => Host.reduce IntOp.andi x v reducesTo_S1024x32x256_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg9 main_v13 main_v16
-- ==== Kernel.lean ====
abbrev S1024x32x256 : Shape := ⟨3, ![1024, 32, 256]⟩
abbrev S8192x1024 : Shape := ⟨2, ![8192, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S1024x8192 : Shape := ⟨2, ![1024, 8192]⟩
abbrev S8192 : Shape := ⟨1, ![8192]⟩
abbrev S8x1024x256 : Shape := ⟨3, ![8, 1024, 256]⟩
abbrev S1x1024 : Shape := ⟨2, ![1, 1024]⟩
abbrev S1x256 : Shape := ⟨2, ![1, 256]⟩
abbrev S1024x8 : Shape := ⟨2, ![1024, 8]⟩
abbrev S1x1 : Shape := ⟨2, ![1, 1]⟩
abbrev S1x8192 : Shape := ⟨2, ![1, 8192]⟩
abbrev S_ : Shape := ⟨0, ![]⟩
abbrev S256x32x256 : Shape := ⟨3, ![256, 32, 256]⟩
abbrev S256x256 : Shape := ⟨2, ![256, 256]⟩
abbrev S256x8192 : Shape := ⟨2, ![256, 8192]⟩
abbrev S1024x1024 : Shape := ⟨2, ![1024, 1024]⟩
abbrev S1x1024x256 : Shape := ⟨3, ![1, 1024, 256]⟩
abbrev S1024x1 : Shape := ⟨2, ![1024, 1]⟩
abbrev S1 : Shape := ⟨1, ![1]⟩
abbrev S1x1x1 : Shape := ⟨3, ![1, 1, 1]⟩
abbrev S8x1024 : Shape := ⟨2, ![8, 1024]⟩
abbrev S1x8x1024 : Shape := ⟨3, ![1, 8, 1024]⟩

abbrev nBuf : Space → Nat
  | .hbm => 22
  | .vmem => 22
  | .smem => 0
  | _ => 0

abbrev bufTy : (tb : Table) → Fin (tcTables nBuf tb) → BufTy
  | .hbm, ⟨0, _⟩ => ⟨S1024x32x256, .f32⟩
  | .hbm, ⟨1, _⟩ => ⟨S8192x1024, .f32⟩
  | .hbm, ⟨2, _⟩ => ⟨S1024, .f32⟩
  | .hbm, ⟨3, _⟩ => ⟨S1024x256, .f32⟩
  | .hbm, ⟨4, _⟩ => ⟨S256, .f32⟩
  | .hbm, ⟨5, _⟩ => ⟨S256x1024, .f32⟩
  | .hbm, ⟨6, _⟩ => ⟨S1024, .f32⟩
  | .hbm, ⟨7, _⟩ => ⟨S1024x8192, .f32⟩
  | .hbm, ⟨8, _⟩ => ⟨S8192, .f32⟩
  | .hbm, ⟨9, _⟩ => ⟨S8x1024x256, .f32⟩
  | .hbm, ⟨10, _⟩ => ⟨S1x1024, .f32⟩
  | .hbm, ⟨11, _⟩ => ⟨S1x256, .f32⟩
  | .hbm, ⟨12, _⟩ => ⟨S1024x256, .f32⟩
  | .hbm, ⟨13, _⟩ => ⟨S1024x256, .f32⟩
  | .hbm, ⟨14, _⟩ => ⟨S1024x8, .i32⟩
  | .hbm, ⟨15, _⟩ => ⟨S1x1, .f32⟩
  | .hbm, ⟨16, _⟩ => ⟨S1x1, .f32⟩
  | .hbm, ⟨17, _⟩ => ⟨S1x1024, .f32⟩
  | .hbm, ⟨18, _⟩ => ⟨S1x8192, .f32⟩
  | .hbm, ⟨19, _⟩ => ⟨S1024x32x256, .f32⟩
  | .hbm, ⟨20, _⟩ => ⟨S_, .f32⟩
  | .hbm, ⟨21, _⟩ => ⟨S_, .f32⟩
  | .local _ .vmem, ⟨0, _⟩ => ⟨S256x32x256, .f32⟩
  | .local _ .vmem, ⟨1, _⟩ => ⟨S256x32x256, .f32⟩
  | .local _ .vmem, ⟨2, _⟩ => ⟨S8192x1024, .f32⟩
  | .local _ .vmem, ⟨3, _⟩ => ⟨S1x1024, .f32⟩
  | .local _ .vmem, ⟨4, _⟩ => ⟨S1024x256, .f32⟩
  | .local _ .vmem, ⟨5, _⟩ => ⟨S1x256, .f32⟩
  | .local _ .vmem, ⟨6, _⟩ => ⟨S256x256, .f32⟩
  | .local _ .vmem, ⟨7, _⟩ => ⟨S256x256, .f32⟩
  | .local _ .vmem, ⟨8, _⟩ => ⟨S1024x256, .f32⟩
  | .local _ .vmem, ⟨9, _⟩ => ⟨S8x1024x256, .f32⟩
  | .local _ .vmem, ⟨10, _⟩ => ⟨S1024x256, .f32⟩
  | .local _ .vmem, ⟨11, _⟩ => ⟨S1024x8, .i32⟩
  | .local _ .vmem, ⟨12, _⟩ => ⟨S1x1, .f32⟩
  | .local _ .vmem, ⟨13, _⟩ => ⟨S1x1, .f32⟩
  | .local _ .vmem, ⟨14, _⟩ => ⟨S256x256, .f32⟩
  | .local _ .vmem, ⟨15, _⟩ => ⟨S256x256, .f32⟩
  | .local _ .vmem, ⟨16, _⟩ => ⟨S256x1024, .f32⟩
  | .local _ .vmem, ⟨17, _⟩ => ⟨S1x1024, .f32⟩
  | .local _ .vmem, ⟨18, _⟩ => ⟨S1024x8192, .f32⟩
  | .local _ .vmem, ⟨19, _⟩ => ⟨S1x8192, .f32⟩
  | .local _ .vmem, ⟨20, _⟩ => ⟨S256x32x256, .f32⟩
  | .local _ .vmem, ⟨21, _⟩ => ⟨S256x32x256, .f32⟩
  | _, _ => ⟨S1024x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v0_4 : Ref sig .tc := ⟨.hbm, 13, rfl⟩
abbrev main_v0_1 : Ref sig .tc := ⟨.hbm, 14, rfl⟩
abbrev main_call0_v3_2 : Ref sig .tc := ⟨.hbm, 15, rfl⟩
abbrev main_call0_v3_3 : Ref sig .tc := ⟨.hbm, 16, rfl⟩
abbrev main_call0_v4 : Ref sig .tc := ⟨.hbm, 17, rfl⟩
abbrev main_call0_v5 : Ref sig .tc := ⟨.hbm, 18, rfl⟩
abbrev main_v0_0 : Ref sig .tc := ⟨.hbm, 19, rfl⟩
abbrev main_v0_2 : Ref sig .tc := ⟨.hbm, 20, rfl⟩
abbrev main_v0_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

abbrev stage1_0 : Fin 1 → Memref sig .tc .vmem S1024x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x8 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x8192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x8192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x32x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S1024x32x256 : Shape := ⟨3, ![1024, 32, 256]⟩
abbrev S8192x1024 : Shape := ⟨2, ![8192, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S1024x8192 : Shape := ⟨2, ![1024, 8192]⟩
abbrev S8192 : Shape := ⟨1, ![8192]⟩
abbrev S8x1024x256 : Shape := ⟨3, ![8, 1024, 256]⟩
abbrev S1024x1024 : Shape := ⟨2, ![1024, 1024]⟩
abbrev S1x1024 : Shape := ⟨2, ![1, 1024]⟩
abbrev S_ : Shape := ⟨0, ![]⟩
abbrev S1x256 : Shape := ⟨2, ![1, 256]⟩
abbrev S1x1024x256 : Shape := ⟨3, ![1, 1024, 256]⟩
abbrev S1024x1 : Shape := ⟨2, ![1024, 1]⟩
abbrev S1 : Shape := ⟨1, ![1]⟩
abbrev S1x1 : Shape := ⟨2, ![1, 1]⟩
abbrev S1024x8 : Shape := ⟨2, ![1024, 8]⟩
abbrev S1x8192 : Shape := ⟨2, ![1, 8192]⟩

abbrev nBuf : Space → Nat
  | .hbm => 737
  | .vmem => 0
  | .smem => 0
  | _ => 0

abbrev hbmTy0_0 (i : Nat) : BufTy := match i % 128 with
  | 0 => ⟨S1024x32x256, .f32⟩
  | 1 => ⟨S8192x1024, .f32⟩
  | 2 => ⟨S1024, .f32⟩
  | 3 => ⟨S1024x256, .f32⟩
  | 4 => ⟨S256, .f32⟩
  | 5 => ⟨S256x1024, .f32⟩
  | 6 => ⟨S1024, .f32⟩
  | 7 => ⟨S1024x8192, .f32⟩
  | 8 => ⟨S8192, .f32⟩
  | 9 => ⟨S8x1024x256, .f32⟩
  | 10 => ⟨S1024x8192, .f32⟩
  | 11 => ⟨S1024x1024, .f32⟩
  | 12 => ⟨S1x1024, .f32⟩
  | 13 => ⟨S1024x1024, .f32⟩
  | 14 => ⟨S1024x1024, .f32⟩
  | 15 => ⟨S_, .f32⟩
  | 16 => ⟨S1024x1024, .f32⟩
  | 17 => ⟨S1024x1024, .f32⟩
  | 18 => ⟨S1024x256, .f32⟩
  | 19 => ⟨S1x256, .f32⟩
  | 20 => ⟨S1024x256, .f32⟩
  | 21 => ⟨S1024x256, .f32⟩
  | 22 => ⟨S_, .f32⟩
  | 23 => ⟨S1024x256, .f32⟩
  | 24 => ⟨S1x1024x256, .f32⟩
  | 25 => ⟨S1024x256, .f32⟩
  | 26 => ⟨S1024x256, .f32⟩
  | 27 => ⟨S_, .f32⟩
  | 28 => ⟨S1024, .f32⟩
  | 29 => ⟨S1024x1, .f32⟩
  | 30 => ⟨S_, .f32⟩
  | 31 => ⟨S1024x256, .f32⟩
  | 32 => ⟨S1024x256, .f32⟩
  | 33 => ⟨S256x1024, .f32⟩
  | 34 => ⟨S1024x1024, .f32⟩
  | 35 => ⟨S1024x1024, .f32⟩
  | 36 => ⟨S1024x1024, .f32⟩
  | 37 => ⟨S1024x256, .f32⟩
  | 38 => ⟨S_, .f32⟩
  | 39 => ⟨S1024, .f32⟩
  | 40 => ⟨S1x1024, .f32⟩
  | 41 => ⟨S1024x1024, .f32⟩
  | 42 => ⟨S1024x1024, .f32⟩
  | 43 => ⟨S1024x1024, .i32⟩
  | 44 => ⟨S_, .f32⟩
  | 45 => ⟨S_, .i32⟩
  | 46 => ⟨S1024, .f32⟩
  | 47 => ⟨S1024, .i32⟩
  | 48 => ⟨S_, .i32⟩
  | 49 => ⟨S1024, .i32⟩
  | 50 => ⟨S1024, .i1⟩
  | 51 => ⟨S_, .i32⟩
  | 52 => ⟨S1024, .i32⟩
  | 53 => ⟨S1024, .i32⟩
  | 54 => ⟨S1024, .i32⟩
  | 55 => ⟨S1024x1, .i32⟩
  | 56 => ⟨S1, .i32⟩
  | 57 => ⟨S_, .i32⟩
  | 58 => ⟨S1024x1, .i32⟩
  | 59 => ⟨S1024x1, .i1⟩
  | 60 => ⟨S1x1, .i32⟩
  | 61 => ⟨S1024x1, .i32⟩
  | 62 => ⟨S1024x1, .i1⟩
  | 63 => ⟨S1024x1, .i1⟩
  | 64 => ⟨S_, .i1⟩
  | 65 => ⟨S1024, .i1⟩
  | 66 => ⟨S1024x256, .f32⟩
  | 67 => ⟨S1024x256, .i1⟩
  | 68 => ⟨S_, .f32⟩
  | 69 => ⟨S1024x256, .f32⟩
  | 70 => ⟨S1024x256, .f32⟩
  | 71 => ⟨S1024x256, .f32⟩
  | 72 => ⟨S1024x256, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S1024x256, .f32⟩
  | 80 => ⟨S1024x256, .f32⟩
  | 81 => ⟨S_, .f32⟩
  | 82 => ⟨S_, .f32⟩
  | 83 => ⟨S_, .f32⟩
  | 84 => ⟨S_, .f32⟩
  | 85 => ⟨S_, .f32⟩
  | 86 => ⟨S1024x1, .i32⟩
  | 87 => ⟨S1x1024, .i32⟩
  | 88 => ⟨S1024x1024, .i32⟩
  | 89 => ⟨S1024x1024, .i32⟩
  | 90 => ⟨S1024x1024, .i1⟩
  | 91 => ⟨S1024x1024, .f32⟩
  | 92 => ⟨S_, .f32⟩
  | 93 => ⟨S1024, .f32⟩
  | 94 => ⟨S_, .f32⟩
  | 95 => ⟨S1024, .f32⟩
  | 96 => ⟨S1024, .f32⟩
  | 97 => ⟨S_, .f32⟩
  | 98 => ⟨S1024, .f32⟩
  | 99 => ⟨S1024, .f32⟩
  | 100 => ⟨S1024, .f32⟩
  | 101 => ⟨S1024, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S1024x256, .f32⟩
  | 111 => ⟨S1024x256, .f32⟩
  | 112 => ⟨S1x1024x256, .f32⟩
  | 113 => ⟨S1024x256, .f32⟩
  | 114 => ⟨S1024x256, .f32⟩
  | 115 => ⟨S_, .f32⟩
  | 116 => ⟨S1024, .f32⟩
  | 117 => ⟨S1024x1, .f32⟩
  | 118 => ⟨S_, .f32⟩
  | 119 => ⟨S1024x256, .f32⟩
  | 120 => ⟨S1024x256, .f32⟩
  | 121 => ⟨S256x1024, .f32⟩
  | 122 => ⟨S1024x1024, .f32⟩
  | 123 => ⟨S1024x1024, .f32⟩
  | 124 => ⟨S1024x1024, .f32⟩
  | 125 => ⟨S1024x256, .f32⟩
  | 126 => ⟨S_, .f32⟩
  | 127 => ⟨S1024, .f32⟩
  | _ => ⟨S1024x32x256, .f32⟩

abbrev hbmTy0_1 (i : Nat) : BufTy := match i % 128 with
  | 0 => ⟨S1x1024, .f32⟩
  | 1 => ⟨S1024x1024, .f32⟩
  | 2 => ⟨S1024x1024, .f32⟩
  | 3 => ⟨S1024x1024, .i32⟩
  | 4 => ⟨S_, .f32⟩
  | 5 => ⟨S_, .i32⟩
  | 6 => ⟨S1024, .f32⟩
  | 7 => ⟨S1024, .i32⟩
  | 8 => ⟨S_, .i32⟩
  | 9 => ⟨S1024, .i32⟩
  | 10 => ⟨S1024, .i1⟩
  | 11 => ⟨S_, .i32⟩
  | 12 => ⟨S1024, .i32⟩
  | 13 => ⟨S1024, .i32⟩
  | 14 => ⟨S1024, .i32⟩
  | 15 => ⟨S1024x1, .i32⟩
  | 16 => ⟨S1, .i32⟩
  | 17 => ⟨S_, .i32⟩
  | 18 => ⟨S1024x1, .i32⟩
  | 19 => ⟨S1024x1, .i1⟩
  | 20 => ⟨S1x1, .i32⟩
  | 21 => ⟨S1024x1, .i32⟩
  | 22 => ⟨S1024x1, .i1⟩
  | 23 => ⟨S1024x1, .i1⟩
  | 24 => ⟨S_, .i1⟩
  | 25 => ⟨S1024, .i1⟩
  | 26 => ⟨S1024x256, .f32⟩
  | 27 => ⟨S1024x256, .i1⟩
  | 28 => ⟨S_, .f32⟩
  | 29 => ⟨S1024x256, .f32⟩
  | 30 => ⟨S1024x256, .f32⟩
  | 31 => ⟨S1024x256, .f32⟩
  | 32 => ⟨S1024x256, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S1024x256, .f32⟩
  | 40 => ⟨S1024x256, .f32⟩
  | 41 => ⟨S_, .f32⟩
  | 42 => ⟨S_, .f32⟩
  | 43 => ⟨S_, .f32⟩
  | 44 => ⟨S_, .f32⟩
  | 45 => ⟨S_, .f32⟩
  | 46 => ⟨S1024x1, .i32⟩
  | 47 => ⟨S1x1024, .i32⟩
  | 48 => ⟨S1024x1024, .i32⟩
  | 49 => ⟨S1024x1024, .i32⟩
  | 50 => ⟨S1024x1024, .i1⟩
  | 51 => ⟨S1024x1024, .f32⟩
  | 52 => ⟨S_, .f32⟩
  | 53 => ⟨S1024, .f32⟩
  | 54 => ⟨S_, .f32⟩
  | 55 => ⟨S1024, .f32⟩
  | 56 => ⟨S1024, .f32⟩
  | 57 => ⟨S_, .f32⟩
  | 58 => ⟨S1024, .f32⟩
  | 59 => ⟨S1024, .f32⟩
  | 60 => ⟨S1024, .f32⟩
  | 61 => ⟨S1024, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S1024x256, .f32⟩
  | 69 => ⟨S1024x256, .f32⟩
  | 70 => ⟨S1x1024x256, .f32⟩
  | 71 => ⟨S1024x256, .f32⟩
  | 72 => ⟨S1024x256, .f32⟩
  | 73 => ⟨S_, .f32⟩
  | 74 => ⟨S1024, .f32⟩
  | 75 => ⟨S1024x1, .f32⟩
  | 76 => ⟨S_, .f32⟩
  | 77 => ⟨S1024x256, .f32⟩
  | 78 => ⟨S1024x256, .f32⟩
  | 79 => ⟨S256x1024, .f32⟩
  | 80 => ⟨S1024x1024, .f32⟩
  | 81 => ⟨S1024x1024, .f32⟩
  | 82 => ⟨S1024x1024, .f32⟩
  | 83 => ⟨S1024x256, .f32⟩
  | 84 => ⟨S_, .f32⟩
  | 85 => ⟨S1024, .f32⟩
  | 86 => ⟨S1x1024, .f32⟩
  | 87 => ⟨S1024x1024, .f32⟩
  | 88 => ⟨S1024x1024, .f32⟩
  | 89 => ⟨S1024x1024, .i32⟩
  | 90 => ⟨S_, .f32⟩
  | 91 => ⟨S_, .i32⟩
  | 92 => ⟨S1024, .f32⟩
  | 93 => ⟨S1024, .i32⟩
  | 94 => ⟨S_, .i32⟩
  | 95 => ⟨S1024, .i32⟩
  | 96 => ⟨S1024, .i1⟩
  | 97 => ⟨S_, .i32⟩
  | 98 => ⟨S1024, .i32⟩
  | 99 => ⟨S1024, .i32⟩
  | 100 => ⟨S1024, .i32⟩
  | 101 => ⟨S1024x1, .i32⟩
  | 102 => ⟨S1, .i32⟩
  | 103 => ⟨S_, .i32⟩
  | 104 => ⟨S1024x1, .i32⟩
  | 105 => ⟨S1024x1, .i1⟩
  | 106 => ⟨S1x1, .i32⟩
  | 107 => ⟨S1024x1, .i32⟩
  | 108 => ⟨S1024x1, .i1⟩
  | 109 => ⟨S1024x1, .i1⟩
  | 110 => ⟨S_, .i1⟩
  | 111 => ⟨S1024, .i1⟩
  | 112 => ⟨S1024x256, .f32⟩
  | 113 => ⟨S1024x256, .i1⟩
  | 114 => ⟨S_, .f32⟩
  | 115 => ⟨S1024x256, .f32⟩
  | 116 => ⟨S1024x256, .f32⟩
  | 117 => ⟨S1024x256, .f32⟩
  | 118 => ⟨S1024x256, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S1024x256, .f32⟩
  | 126 => ⟨S1024x256, .f32⟩
  | 127 => ⟨S_, .f32⟩
  | _ => ⟨S1024x32x256, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S1024x1, .i32⟩
  | 5 => ⟨S1x1024, .i32⟩
  | 6 => ⟨S1024x1024, .i32⟩
  | 7 => ⟨S1024x1024, .i32⟩
  | 8 => ⟨S1024x1024, .i1⟩
  | 9 => ⟨S1024x1024, .f32⟩
  | 10 => ⟨S_, .f32⟩
  | 11 => ⟨S1024, .f32⟩
  | 12 => ⟨S_, .f32⟩
  | 13 => ⟨S1024, .f32⟩
  | 14 => ⟨S1024, .f32⟩
  | 15 => ⟨S_, .f32⟩
  | 16 => ⟨S1024, .f32⟩
  | 17 => ⟨S1024, .f32⟩
  | 18 => ⟨S1024, .f32⟩
  | 19 => ⟨S1024, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S1024x256, .f32⟩
  | 27 => ⟨S1024x256, .f32⟩
  | 28 => ⟨S1x1024x256, .f32⟩
  | 29 => ⟨S1024x256, .f32⟩
  | 30 => ⟨S1024x256, .f32⟩
  | 31 => ⟨S_, .f32⟩
  | 32 => ⟨S1024, .f32⟩
  | 33 => ⟨S1024x1, .f32⟩
  | 34 => ⟨S_, .f32⟩
  | 35 => ⟨S1024x256, .f32⟩
  | 36 => ⟨S1024x256, .f32⟩
  | 37 => ⟨S256x1024, .f32⟩
  | 38 => ⟨S1024x1024, .f32⟩
  | 39 => ⟨S1024x1024, .f32⟩
  | 40 => ⟨S1024x1024, .f32⟩
  | 41 => ⟨S1024x256, .f32⟩
  | 42 => ⟨S_, .f32⟩
  | 43 => ⟨S1024, .f32⟩
  | 44 => ⟨S1x1024, .f32⟩
  | 45 => ⟨S1024x1024, .f32⟩
  | 46 => ⟨S1024x1024, .f32⟩
  | 47 => ⟨S1024x1024, .i32⟩
  | 48 => ⟨S_, .f32⟩
  | 49 => ⟨S_, .i32⟩
  | 50 => ⟨S1024, .f32⟩
  | 51 => ⟨S1024, .i32⟩
  | 52 => ⟨S_, .i32⟩
  | 53 => ⟨S1024, .i32⟩
  | 54 => ⟨S1024, .i1⟩
  | 55 => ⟨S_, .i32⟩
  | 56 => ⟨S1024, .i32⟩
  | 57 => ⟨S1024, .i32⟩
  | 58 => ⟨S1024, .i32⟩
  | 59 => ⟨S1024x1, .i32⟩
  | 60 => ⟨S1, .i32⟩
  | 61 => ⟨S_, .i32⟩
  | 62 => ⟨S1024x1, .i32⟩
  | 63 => ⟨S1024x1, .i1⟩
  | 64 => ⟨S1x1, .i32⟩
  | 65 => ⟨S1024x1, .i32⟩
  | 66 => ⟨S1024x1, .i1⟩
  | 67 => ⟨S1024x1, .i1⟩
  | 68 => ⟨S_, .i1⟩
  | 69 => ⟨S1024, .i1⟩
  | 70 => ⟨S1024x256, .f32⟩
  | 71 => ⟨S1024x256, .i1⟩
  | 72 => ⟨S_, .f32⟩
  | 73 => ⟨S1024x256, .f32⟩
  | 74 => ⟨S1024x256, .f32⟩
  | 75 => ⟨S1024x256, .f32⟩
  | 76 => ⟨S1024x256, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S1024x256, .f32⟩
  | 84 => ⟨S1024x256, .f32⟩
  | 85 => ⟨S_, .f32⟩
  | 86 => ⟨S_, .f32⟩
  | 87 => ⟨S_, .f32⟩
  | 88 => ⟨S_, .f32⟩
  | 89 => ⟨S_, .f32⟩
  | 90 => ⟨S1024x1, .i32⟩
  | 91 => ⟨S1x1024, .i32⟩
  | 92 => ⟨S1024x1024, .i32⟩
  | 93 => ⟨S1024x1024, .i32⟩
  | 94 => ⟨S1024x1024, .i1⟩
  | 95 => ⟨S1024x1024, .f32⟩
  | 96 => ⟨S_, .f32⟩
  | 97 => ⟨S1024, .f32⟩
  | 98 => ⟨S_, .f32⟩
  | 99 => ⟨S1024, .f32⟩
  | 100 => ⟨S1024, .f32⟩
  | 101 => ⟨S_, .f32⟩
  | 102 => ⟨S1024, .f32⟩
  | 103 => ⟨S1024, .f32⟩
  | 104 => ⟨S1024, .f32⟩
  | 105 => ⟨S1024, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S1024x256, .f32⟩
  | 113 => ⟨S1024x256, .f32⟩
  | 114 => ⟨S1x1024x256, .f32⟩
  | 115 => ⟨S1024x256, .f32⟩
  | 116 => ⟨S1024x256, .f32⟩
  | 117 => ⟨S_, .f32⟩
  | 118 => ⟨S1024, .f32⟩
  | 119 => ⟨S1024x1, .f32⟩
  | 120 => ⟨S_, .f32⟩
  | 121 => ⟨S1024x256, .f32⟩
  | 122 => ⟨S1024x256, .f32⟩
  | 123 => ⟨S256x1024, .f32⟩
  | 124 => ⟨S1024x1024, .f32⟩
  | 125 => ⟨S1024x1024, .f32⟩
  | 126 => ⟨S1024x1024, .f32⟩
  | 127 => ⟨S1024x256, .f32⟩
  | _ => ⟨S1024x32x256, .f32⟩

abbrev hbmTy0_3 (i : Nat) : BufTy := match i % 128 with
  | 0 => ⟨S_, .f32⟩
  | 1 => ⟨S1024, .f32⟩
  | 2 => ⟨S1x1024, .f32⟩
  | 3 => ⟨S1024x1024, .f32⟩
  | 4 => ⟨S1024x1024, .f32⟩
  | 5 => ⟨S1024x1024, .i32⟩
  | 6 => ⟨S_, .f32⟩
  | 7 => ⟨S_, .i32⟩
  | 8 => ⟨S1024, .f32⟩
  | 9 => ⟨S1024, .i32⟩
  | 10 => ⟨S_, .i32⟩
  | 11 => ⟨S1024, .i32⟩
  | 12 => ⟨S1024, .i1⟩
  | 13 => ⟨S_, .i32⟩
  | 14 => ⟨S1024, .i32⟩
  | 15 => ⟨S1024, .i32⟩
  | 16 => ⟨S1024, .i32⟩
  | 17 => ⟨S1024x1, .i32⟩
  | 18 => ⟨S1, .i32⟩
  | 19 => ⟨S_, .i32⟩
  | 20 => ⟨S1024x1, .i32⟩
  | 21 => ⟨S1024x1, .i1⟩
  | 22 => ⟨S1x1, .i32⟩
  | 23 => ⟨S1024x1, .i32⟩
  | 24 => ⟨S1024x1, .i1⟩
  | 25 => ⟨S1024x1, .i1⟩
  | 26 => ⟨S_, .i1⟩
  | 27 => ⟨S1024, .i1⟩
  | 28 => ⟨S1024x256, .f32⟩
  | 29 => ⟨S1024x256, .i1⟩
  | 30 => ⟨S_, .f32⟩
  | 31 => ⟨S1024x256, .f32⟩
  | 32 => ⟨S1024x256, .f32⟩
  | 33 => ⟨S1024x256, .f32⟩
  | 34 => ⟨S1024x256, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S1024x256, .f32⟩
  | 42 => ⟨S1024x256, .f32⟩
  | 43 => ⟨S_, .f32⟩
  | 44 => ⟨S_, .f32⟩
  | 45 => ⟨S_, .f32⟩
  | 46 => ⟨S_, .f32⟩
  | 47 => ⟨S_, .f32⟩
  | 48 => ⟨S1024x1, .i32⟩
  | 49 => ⟨S1x1024, .i32⟩
  | 50 => ⟨S1024x1024, .i32⟩
  | 51 => ⟨S1024x1024, .i32⟩
  | 52 => ⟨S1024x1024, .i1⟩
  | 53 => ⟨S1024x1024, .f32⟩
  | 54 => ⟨S_, .f32⟩
  | 55 => ⟨S1024, .f32⟩
  | 56 => ⟨S_, .f32⟩
  | 57 => ⟨S1024, .f32⟩
  | 58 => ⟨S1024, .f32⟩
  | 59 => ⟨S_, .f32⟩
  | 60 => ⟨S1024, .f32⟩
  | 61 => ⟨S1024, .f32⟩
  | 62 => ⟨S1024, .f32⟩
  | 63 => ⟨S1024, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S1024x256, .f32⟩
  | 71 => ⟨S1024x256, .f32⟩
  | 72 => ⟨S1x1024x256, .f32⟩
  | 73 => ⟨S1024x256, .f32⟩
  | 74 => ⟨S1024x256, .f32⟩
  | 75 => ⟨S_, .f32⟩
  | 76 => ⟨S1024, .f32⟩
  | 77 => ⟨S1024x1, .f32⟩
  | 78 => ⟨S_, .f32⟩
  | 79 => ⟨S1024x256, .f32⟩
  | 80 => ⟨S1024x256, .f32⟩
  | 81 => ⟨S256x1024, .f32⟩
  | 82 => ⟨S1024x1024, .f32⟩
  | 83 => ⟨S1024x1024, .f32⟩
  | 84 => ⟨S1024x1024, .f32⟩
  | 85 => ⟨S1024x256, .f32⟩
  | 86 => ⟨S_, .f32⟩
  | 87 => ⟨S1024, .f32⟩
  | 88 => ⟨S1x1024, .f32⟩
  | 89 => ⟨S1024x1024, .f32⟩
  | 90 => ⟨S1024x1024, .f32⟩
  | 91 => ⟨S1024x1024, .i32⟩
  | 92 => ⟨S_, .f32⟩
  | 93 => ⟨S_, .i32⟩
  | 94 => ⟨S1024, .f32⟩
  | 95 => ⟨S1024, .i32⟩
  | 96 => ⟨S_, .i32⟩
  | 97 => ⟨S1024, .i32⟩
  | 98 => ⟨S1024, .i1⟩
  | 99 => ⟨S_, .i32⟩
  | 100 => ⟨S1024, .i32⟩
  | 101 => ⟨S1024, .i32⟩
  | 102 => ⟨S1024, .i32⟩
  | 103 => ⟨S1024x1, .i32⟩
  | 104 => ⟨S1, .i32⟩
  | 105 => ⟨S_, .i32⟩
  | 106 => ⟨S1024x1, .i32⟩
  | 107 => ⟨S1024x1, .i1⟩
  | 108 => ⟨S1x1, .i32⟩
  | 109 => ⟨S1024x1, .i32⟩
  | 110 => ⟨S1024x1, .i1⟩
  | 111 => ⟨S1024x1, .i1⟩
  | 112 => ⟨S_, .i1⟩
  | 113 => ⟨S1024, .i1⟩
  | 114 => ⟨S1024x256, .f32⟩
  | 115 => ⟨S1024x256, .i1⟩
  | 116 => ⟨S_, .f32⟩
  | 117 => ⟨S1024x256, .f32⟩
  | 118 => ⟨S1024x256, .f32⟩
  | 119 => ⟨S1024x256, .f32⟩
  | 120 => ⟨S1024x256, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S1024x256, .f32⟩
  | _ => ⟨S1024x32x256, .f32⟩

abbrev hbmTy0_4 (i : Nat) : BufTy := match i % 128 with
  | 0 => ⟨S1024x256, .f32⟩
  | 1 => ⟨S_, .f32⟩
  | 2 => ⟨S_, .f32⟩
  | 3 => ⟨S_, .f32⟩
  | 4 => ⟨S_, .f32⟩
  | 5 => ⟨S_, .f32⟩
  | 6 => ⟨S1024x1, .i32⟩
  | 7 => ⟨S1x1024, .i32⟩
  | 8 => ⟨S1024x1024, .i32⟩
  | 9 => ⟨S1024x1024, .i32⟩
  | 10 => ⟨S1024x1024, .i1⟩
  | 11 => ⟨S1024x1024, .f32⟩
  | 12 => ⟨S_, .f32⟩
  | 13 => ⟨S1024, .f32⟩
  | 14 => ⟨S_, .f32⟩
  | 15 => ⟨S1024, .f32⟩
  | 16 => ⟨S1024, .f32⟩
  | 17 => ⟨S_, .f32⟩
  | 18 => ⟨S1024, .f32⟩
  | 19 => ⟨S1024, .f32⟩
  | 20 => ⟨S1024, .f32⟩
  | 21 => ⟨S1024, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S1024x256, .f32⟩
  | 29 => ⟨S1024x256, .f32⟩
  | 30 => ⟨S1x1024x256, .f32⟩
  | 31 => ⟨S1024x256, .f32⟩
  | 32 => ⟨S1024x256, .f32⟩
  | 33 => ⟨S_, .f32⟩
  | 34 => ⟨S1024, .f32⟩
  | 35 => ⟨S1024x1, .f32⟩
  | 36 => ⟨S_, .f32⟩
  | 37 => ⟨S1024x256, .f32⟩
  | 38 => ⟨S1024x256, .f32⟩
  | 39 => ⟨S256x1024, .f32⟩
  | 40 => ⟨S1024x1024, .f32⟩
  | 41 => ⟨S1024x1024, .f32⟩
  | 42 => ⟨S1024x1024, .f32⟩
  | 43 => ⟨S1024x256, .f32⟩
  | 44 => ⟨S_, .f32⟩
  | 45 => ⟨S1024, .f32⟩
  | 46 => ⟨S1x1024, .f32⟩
  | 47 => ⟨S1024x1024, .f32⟩
  | 48 => ⟨S1024x1024, .f32⟩
  | 49 => ⟨S1024x1024, .i32⟩
  | 50 => ⟨S_, .f32⟩
  | 51 => ⟨S_, .i32⟩
  | 52 => ⟨S1024, .f32⟩
  | 53 => ⟨S1024, .i32⟩
  | 54 => ⟨S_, .i32⟩
  | 55 => ⟨S1024, .i32⟩
  | 56 => ⟨S1024, .i1⟩
  | 57 => ⟨S_, .i32⟩
  | 58 => ⟨S1024, .i32⟩
  | 59 => ⟨S1024, .i32⟩
  | 60 => ⟨S1024, .i32⟩
  | 61 => ⟨S1024x1, .i32⟩
  | 62 => ⟨S1, .i32⟩
  | 63 => ⟨S_, .i32⟩
  | 64 => ⟨S1024x1, .i32⟩
  | 65 => ⟨S1024x1, .i1⟩
  | 66 => ⟨S1x1, .i32⟩
  | 67 => ⟨S1024x1, .i32⟩
  | 68 => ⟨S1024x1, .i1⟩
  | 69 => ⟨S1024x1, .i1⟩
  | 70 => ⟨S_, .i1⟩
  | 71 => ⟨S1024, .i1⟩
  | 72 => ⟨S1024x256, .f32⟩
  | 73 => ⟨S1024x256, .i1⟩
  | 74 => ⟨S_, .f32⟩
  | 75 => ⟨S1024x256, .f32⟩
  | 76 => ⟨S1024x256, .f32⟩
  | 77 => ⟨S1024x256, .f32⟩
  | 78 => ⟨S1024x256, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S1024x256, .f32⟩
  | 86 => ⟨S1024x256, .f32⟩
  | 87 => ⟨S_, .f32⟩
  | 88 => ⟨S_, .f32⟩
  | 89 => ⟨S_, .f32⟩
  | 90 => ⟨S_, .f32⟩
  | 91 => ⟨S_, .f32⟩
  | 92 => ⟨S1024x1, .i32⟩
  | 93 => ⟨S1x1024, .i32⟩
  | 94 => ⟨S1024x1024, .i32⟩
  | 95 => ⟨S1024x1024, .i32⟩
  | 96 => ⟨S1024x1024, .i1⟩
  | 97 => ⟨S1024x1024, .f32⟩
  | 98 => ⟨S_, .f32⟩
  | 99 => ⟨S1024, .f32⟩
  | 100 => ⟨S_, .f32⟩
  | 101 => ⟨S1024, .f32⟩
  | 102 => ⟨S1024, .f32⟩
  | 103 => ⟨S_, .f32⟩
  | 104 => ⟨S1024, .f32⟩
  | 105 => ⟨S1024, .f32⟩
  | 106 => ⟨S1024, .f32⟩
  | 107 => ⟨S1024, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S1024x256, .f32⟩
  | 115 => ⟨S1024x256, .f32⟩
  | 116 => ⟨S1x1024x256, .f32⟩
  | 117 => ⟨S1024x256, .f32⟩
  | 118 => ⟨S1024x256, .f32⟩
  | 119 => ⟨S_, .f32⟩
  | 120 => ⟨S1024, .f32⟩
  | 121 => ⟨S1024x1, .f32⟩
  | 122 => ⟨S_, .f32⟩
  | 123 => ⟨S1024x256, .f32⟩
  | 124 => ⟨S1024x256, .f32⟩
  | 125 => ⟨S256x1024, .f32⟩
  | 126 => ⟨S1024x1024, .f32⟩
  | 127 => ⟨S1024x1024, .f32⟩
  | _ => ⟨S1024x32x256, .f32⟩

abbrev hbmTy0_5 (i : Nat) : BufTy := match i % 128 with
  | 0 => ⟨S1024x1024, .f32⟩
  | 1 => ⟨S1024x256, .f32⟩
  | 2 => ⟨S_, .f32⟩
  | 3 => ⟨S1024, .f32⟩
  | 4 => ⟨S1x1024, .f32⟩
  | 5 => ⟨S1024x1024, .f32⟩
  | 6 => ⟨S1024x1024, .f32⟩
  | 7 => ⟨S1024x1024, .i32⟩
  | 8 => ⟨S_, .f32⟩
  | 9 => ⟨S_, .i32⟩
  | 10 => ⟨S1024, .f32⟩
  | 11 => ⟨S1024, .i32⟩
  | 12 => ⟨S_, .i32⟩
  | 13 => ⟨S1024, .i32⟩
  | 14 => ⟨S1024, .i1⟩
  | 15 => ⟨S_, .i32⟩
  | 16 => ⟨S1024, .i32⟩
  | 17 => ⟨S1024, .i32⟩
  | 18 => ⟨S1024, .i32⟩
  | 19 => ⟨S1024x1, .i32⟩
  | 20 => ⟨S1, .i32⟩
  | 21 => ⟨S_, .i32⟩
  | 22 => ⟨S1024x1, .i32⟩
  | 23 => ⟨S1024x1, .i1⟩
  | 24 => ⟨S1x1, .i32⟩
  | 25 => ⟨S1024x1, .i32⟩
  | 26 => ⟨S1024x1, .i1⟩
  | 27 => ⟨S1024x1, .i1⟩
  | 28 => ⟨S_, .i1⟩
  | 29 => ⟨S1024, .i1⟩
  | 30 => ⟨S1024x256, .f32⟩
  | 31 => ⟨S1024x256, .i1⟩
  | 32 => ⟨S_, .f32⟩
  | 33 => ⟨S1024x256, .f32⟩
  | 34 => ⟨S1024x256, .f32⟩
  | 35 => ⟨S1024x256, .f32⟩
  | 36 => ⟨S1024x256, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S1024x256, .f32⟩
  | 44 => ⟨S1024x256, .f32⟩
  | 45 => ⟨S_, .f32⟩
  | 46 => ⟨S_, .f32⟩
  | 47 => ⟨S_, .f32⟩
  | 48 => ⟨S_, .f32⟩
  | 49 => ⟨S_, .f32⟩
  | 50 => ⟨S1024x1, .i32⟩
  | 51 => ⟨S1x1024, .i32⟩
  | 52 => ⟨S1024x1024, .i32⟩
  | 53 => ⟨S1024x1024, .i32⟩
  | 54 => ⟨S1024x1024, .i1⟩
  | 55 => ⟨S1024x1024, .f32⟩
  | 56 => ⟨S_, .f32⟩
  | 57 => ⟨S1024, .f32⟩
  | 58 => ⟨S_, .f32⟩
  | 59 => ⟨S1024, .f32⟩
  | 60 => ⟨S1024, .f32⟩
  | 61 => ⟨S_, .f32⟩
  | 62 => ⟨S1024, .f32⟩
  | 63 => ⟨S1024, .f32⟩
  | 64 => ⟨S1024, .f32⟩
  | 65 => ⟨S1024, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S1024x256, .f32⟩
  | 73 => ⟨S1024x256, .f32⟩
  | 74 => ⟨S1024x1, .i32⟩
  | 75 => ⟨S1024x1, .i32⟩
  | 76 => ⟨S1024x1, .i32⟩
  | 77 => ⟨S1024x1, .i32⟩
  | 78 => ⟨S1024x1, .i32⟩
  | 79 => ⟨S1024x1, .i32⟩
  | 80 => ⟨S1024x1, .i32⟩
  | 81 => ⟨S1024x1, .i32⟩
  | 82 => ⟨S1024x8, .i32⟩
  | 83 => ⟨S1024x256, .f32⟩
  | 84 => ⟨S1024x256, .f32⟩
  | 85 => ⟨S1024x1024, .f32⟩
  | 86 => ⟨S1x1024, .f32⟩
  | 87 => ⟨S1024x1024, .f32⟩
  | 88 => ⟨S1024x1024, .f32⟩
  | 89 => ⟨S_, .f32⟩
  | 90 => ⟨S1024x1024, .f32⟩
  | 91 => ⟨S1024x1024, .f32⟩
  | 92 => ⟨S1024x8192, .f32⟩
  | 93 => ⟨S1x8192, .f32⟩
  | 94 => ⟨S1024x8192, .f32⟩
  | 95 => ⟨S1024x8192, .f32⟩
  | 96 => ⟨S1024x32x256, .f32⟩
  | _ => ⟨S1024x32x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1024x32x256, .f32⟩

abbrev bufTy : (tb : Table) → Fin (tcTables nBuf tb) → BufTy
  | .hbm, ⟨i, _⟩ => hbmTy i
  | _, _ => ⟨S1024x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call1_v0 : Ref sig .tc := ⟨.hbm, 26, rfl⟩
abbrev main_call1_cst : Ref sig .tc := ⟨.hbm, 27, rfl⟩
abbrev main_call1_v1 : Ref sig .tc := ⟨.hbm, 28, rfl⟩
abbrev main_call1_v2 : Ref sig .tc := ⟨.hbm, 29, rfl⟩
abbrev main_call1_cst_0 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_cst_1 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_call0_v0 : Ref sig .tc := ⟨.hbm, 43, rfl⟩
abbrev main_call1_call0_cst : Ref sig .tc := ⟨.hbm, 44, rfl⟩
abbrev main_call1_call0_c : Ref sig .tc := ⟨.hbm, 45, rfl⟩
abbrev main_call1_call0_v1_0 : Ref sig .tc := ⟨.hbm, 46, rfl⟩
abbrev main_v13_1 : Ref sig .tc := ⟨.hbm, 47, rfl⟩
abbrev main_call1_call1_c : Ref sig .tc := ⟨.hbm, 48, rfl⟩
abbrev main_call1_call1_v0 : Ref sig .tc := ⟨.hbm, 49, rfl⟩
abbrev main_call1_call1_v1 : Ref sig .tc := ⟨.hbm, 50, rfl⟩
abbrev main_call1_call1_c_0 : Ref sig .tc := ⟨.hbm, 51, rfl⟩
abbrev main_call1_call1_v2 : Ref sig .tc := ⟨.hbm, 52, rfl⟩
abbrev main_call1_call1_v3 : Ref sig .tc := ⟨.hbm, 53, rfl⟩
abbrev main_call1_call1_v4 : Ref sig .tc := ⟨.hbm, 54, rfl⟩
abbrev main_call1_call1_v5 : Ref sig .tc := ⟨.hbm, 55, rfl⟩
abbrev main_call1_call1_c_1 : Ref sig .tc := ⟨.hbm, 56, rfl⟩
abbrev main_call1_call1_c_2 : Ref sig .tc := ⟨.hbm, 57, rfl⟩
abbrev main_call1_call1_v6 : Ref sig .tc := ⟨.hbm, 58, rfl⟩
abbrev main_call1_call1_v7 : Ref sig .tc := ⟨.hbm, 59, rfl⟩
abbrev main_call1_call1_v8 : Ref sig .tc := ⟨.hbm, 60, rfl⟩
abbrev main_call1_call1_v9 : Ref sig .tc := ⟨.hbm, 61, rfl⟩
abbrev main_call1_call1_v10 : Ref sig .tc := ⟨.hbm, 62, rfl⟩
abbrev main_call1_call1_v11 : Ref sig .tc := ⟨.hbm, 63, rfl⟩
abbrev main_call1_call1_c_3 : Ref sig .tc := ⟨.hbm, 64, rfl⟩
abbrev main_call1_call1_v12 : Ref sig .tc := ⟨.hbm, 65, rfl⟩
abbrev main_call1_call1_v13 : Ref sig .tc := ⟨.hbm, 66, rfl⟩
abbrev main_call1_call1_v14 : Ref sig .tc := ⟨.hbm, 67, rfl⟩
abbrev main_call1_call1_cst : Ref sig .tc := ⟨.hbm, 68, rfl⟩
abbrev main_call1_call1_v15 : Ref sig .tc := ⟨.hbm, 69, rfl⟩
abbrev main_v13_0 : Ref sig .tc := ⟨.hbm, 70, rfl⟩
abbrev main_call1_v16 : Ref sig .tc := ⟨.hbm, 71, rfl⟩
abbrev main_call1_v17 : Ref sig .tc := ⟨.hbm, 72, rfl⟩
abbrev main_call1_cst_2 : Ref sig .tc := ⟨.hbm, 73, rfl⟩
abbrev main_call1_v18 : Ref sig .tc := ⟨.hbm, 74, rfl⟩
abbrev main_call1_cst_3 : Ref sig .tc := ⟨.hbm, 75, rfl⟩
abbrev main_call1_v19 : Ref sig .tc := ⟨.hbm, 76, rfl⟩
abbrev main_call1_cst_4 : Ref sig .tc := ⟨.hbm, 77, rfl⟩
abbrev main_call1_v20 : Ref sig .tc := ⟨.hbm, 78, rfl⟩
abbrev main_call1_v21 : Ref sig .tc := ⟨.hbm, 79, rfl⟩
abbrev main_call1_v22 : Ref sig .tc := ⟨.hbm, 80, rfl⟩
abbrev main_call1_cst_5 : Ref sig .tc := ⟨.hbm, 81, rfl⟩
abbrev main_call1_v23 : Ref sig .tc := ⟨.hbm, 82, rfl⟩
abbrev main_call1_cst_6 : Ref sig .tc := ⟨.hbm, 83, rfl⟩
abbrev main_call1_v24 : Ref sig .tc := ⟨.hbm, 84, rfl⟩
abbrev main_v13_2 : Ref sig .tc := ⟨.hbm, 85, rfl⟩
abbrev main_call1_call2_v0 : Ref sig .tc := ⟨.hbm, 86, rfl⟩
abbrev main_call1_call2_v1 : Ref sig .tc := ⟨.hbm, 87, rfl⟩
abbrev main_call1_call2_v2 : Ref sig .tc := ⟨.hbm, 88, rfl⟩
abbrev main_call1_call2_v3 : Ref sig .tc := ⟨.hbm, 89, rfl⟩
abbrev main_call1_call2_v4 : Ref sig .tc := ⟨.hbm, 90, rfl⟩
abbrev main_call1_v26 : Ref sig .tc := ⟨.hbm, 91, rfl⟩
abbrev main_call1_cst_7 : Ref sig .tc := ⟨.hbm, 92, rfl⟩
abbrev main_call1_v27 : Ref sig .tc := ⟨.hbm, 93, rfl⟩
abbrev main_call1_cst_8 : Ref sig .tc := ⟨.hbm, 94, rfl⟩
abbrev main_call1_v28 : Ref sig .tc := ⟨.hbm, 95, rfl⟩
abbrev main_call1_v29 : Ref sig .tc := ⟨.hbm, 96, rfl⟩
abbrev main_call1_cst_9 : Ref sig .tc := ⟨.hbm, 97, rfl⟩
abbrev main_call1_v30 : Ref sig .tc := ⟨.hbm, 98, rfl⟩
abbrev main_call1_v31 : Ref sig .tc := ⟨.hbm, 99, rfl⟩
abbrev main_call1_v32 : Ref sig .tc := ⟨.hbm, 100, rfl⟩
abbrev main_call1_v33 : Ref sig .tc := ⟨.hbm, 101, rfl⟩
abbrev main_call1_cst_10 : Ref sig .tc := ⟨.hbm, 102, rfl⟩
abbrev main_call1_v34 : Ref sig .tc := ⟨.hbm, 103, rfl⟩
abbrev main_call1_cst_11 : Ref sig .tc := ⟨.hbm, 104, rfl⟩
abbrev main_v13_3 : Ref sig .tc := ⟨.hbm, 105, rfl⟩
abbrev main_cst_0 : Ref sig .tc := ⟨.hbm, 106, rfl⟩
abbrev main_v14 : Ref sig .tc := ⟨.hbm, 107, rfl⟩
abbrev main_cst_1 : Ref sig .tc := ⟨.hbm, 108, rfl⟩
abbrev main_v15 : Ref sig .tc := ⟨.hbm, 109, rfl⟩
abbrev main_v16 : Ref sig .tc := ⟨.hbm, 110, rfl⟩
abbrev main_v17 : Ref sig .tc := ⟨.hbm, 111, rfl⟩
abbrev main_v18 : Ref sig .tc := ⟨.hbm, 112, rfl⟩
abbrev main_v19 : Ref sig .tc := ⟨.hbm, 113, rfl⟩
abbrev main_call2_v0 : Ref sig .tc := ⟨.hbm, 114, rfl⟩
abbrev main_call2_cst : Ref sig .tc := ⟨.hbm, 115, rfl⟩
abbrev main_call2_v1 : Ref sig .tc := ⟨.hbm, 116, rfl⟩
abbrev main_call2_v2 : Ref sig .tc := ⟨.hbm, 117, rfl⟩
abbrev main_call2_cst_0 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_v7 : Ref sig .tc := ⟨.hbm, 123, rfl⟩
abbrev main_call2_v8 : Ref sig .tc := ⟨.hbm, 124, rfl⟩
abbrev main_call2_v9 : Ref sig .tc := ⟨.hbm, 125, rfl⟩
abbrev main_call2_cst_1 : Ref sig .tc := ⟨.hbm, 126, rfl⟩
abbrev main_call2_v10 : Ref sig .tc := ⟨.hbm, 127, rfl⟩
abbrev main_call2_v11 : Ref sig .tc := ⟨.hbm, 128, rfl⟩
abbrev main_call2_v12 : Ref sig .tc := ⟨.hbm, 129, rfl⟩
abbrev main_call2_v13 : Ref sig .tc := ⟨.hbm, 130, rfl⟩
abbrev main_call2_call0_v0 : Ref sig .tc := ⟨.hbm, 131, rfl⟩
abbrev main_call2_call0_cst : Ref sig .tc := ⟨.hbm, 132, rfl⟩
abbrev main_call2_call0_c : Ref sig .tc := ⟨.hbm, 133, rfl⟩
abbrev main_call2_call0_v1_0 : Ref sig .tc := ⟨.hbm, 134, rfl⟩
abbrev main_v20_1 : Ref sig .tc := ⟨.hbm, 135, rfl⟩
abbrev main_call2_call1_c : Ref sig .tc := ⟨.hbm, 136, rfl⟩
abbrev main_call2_call1_v0 : Ref sig .tc := ⟨.hbm, 137, rfl⟩
abbrev main_call2_call1_v1 : Ref sig .tc := ⟨.hbm, 138, rfl⟩
abbrev main_call2_call1_c_0 : Ref sig .tc := ⟨.hbm, 139, rfl⟩
abbrev main_call2_call1_v2 : Ref sig .tc := ⟨.hbm, 140, rfl⟩
abbrev main_call2_call1_v3 : Ref sig .tc := ⟨.hbm, 141, rfl⟩
abbrev main_call2_call1_v4 : Ref sig .tc := ⟨.hbm, 142, rfl⟩
abbrev main_call2_call1_v5 : Ref sig .tc := ⟨.hbm, 143, rfl⟩
abbrev main_call2_call1_c_1 : Ref sig .tc := ⟨.hbm, 144, rfl⟩
abbrev main_call2_call1_c_2 : Ref sig .tc := ⟨.hbm, 145, rfl⟩
abbrev main_call2_call1_v6 : Ref sig .tc := ⟨.hbm, 146, rfl⟩
abbrev main_call2_call1_v7 : Ref sig .tc := ⟨.hbm, 147, rfl⟩
abbrev main_call2_call1_v8 : Ref sig .tc := ⟨.hbm, 148, rfl⟩
abbrev main_call2_call1_v9 : Ref sig .tc := ⟨.hbm, 149, rfl⟩
abbrev main_call2_call1_v10 : Ref sig .tc := ⟨.hbm, 150, rfl⟩
abbrev main_call2_call1_v11 : Ref sig .tc := ⟨.hbm, 151, rfl⟩
abbrev main_call2_call1_c_3 : Ref sig .tc := ⟨.hbm, 152, rfl⟩
abbrev main_call2_call1_v12 : Ref sig .tc := ⟨.hbm, 153, rfl⟩
abbrev main_call2_call1_v13 : Ref sig .tc := ⟨.hbm, 154, rfl⟩
abbrev main_call2_call1_v14 : Ref sig .tc := ⟨.hbm, 155, rfl⟩
abbrev main_call2_call1_cst : Ref sig .tc := ⟨.hbm, 156, rfl⟩
abbrev main_call2_call1_v15 : Ref sig .tc := ⟨.hbm, 157, rfl⟩
abbrev main_v20_0 : Ref sig .tc := ⟨.hbm, 158, rfl⟩
abbrev main_call2_v16 : Ref sig .tc := ⟨.hbm, 159, rfl⟩
abbrev main_call2_v17 : Ref sig .tc := ⟨.hbm, 160, rfl⟩
abbrev main_call2_cst_2 : Ref sig .tc := ⟨.hbm, 161, rfl⟩
abbrev main_call2_v18 : Ref sig .tc := ⟨.hbm, 162, rfl⟩
abbrev main_call2_cst_3 : Ref sig .tc := ⟨.hbm, 163, rfl⟩
abbrev main_call2_v19 : Ref sig .tc := ⟨.hbm, 164, rfl⟩
abbrev main_call2_cst_4 : Ref sig .tc := ⟨.hbm, 165, rfl⟩
abbrev main_call2_v20 : Ref sig .tc := ⟨.hbm, 166, rfl⟩
abbrev main_call2_v21 : Ref sig .tc := ⟨.hbm, 167, rfl⟩
abbrev main_call2_v22 : Ref sig .tc := ⟨.hbm, 168, rfl⟩
abbrev main_call2_cst_5 : Ref sig .tc := ⟨.hbm, 169, rfl⟩
abbrev main_call2_v23 : Ref sig .tc := ⟨.hbm, 170, rfl⟩
abbrev main_call2_cst_6 : Ref sig .tc := ⟨.hbm, 171, rfl⟩
abbrev main_call2_v24 : Ref sig .tc := ⟨.hbm, 172, rfl⟩
abbrev main_v20_2 : Ref sig .tc := ⟨.hbm, 173, rfl⟩
abbrev main_call2_call2_v0 : Ref sig .tc := ⟨.hbm, 174, rfl⟩
abbrev main_call2_call2_v1 : Ref sig .tc := ⟨.hbm, 175, rfl⟩
abbrev main_call2_call2_v2 : Ref sig .tc := ⟨.hbm, 176, rfl⟩
abbrev main_call2_call2_v3 : Ref sig .tc := ⟨.hbm, 177, rfl⟩
abbrev main_call2_call2_v4 : Ref sig .tc := ⟨.hbm, 178, rfl⟩
abbrev main_call2_v26 : Ref sig .tc := ⟨.hbm, 179, rfl⟩
abbrev main_call2_cst_7 : Ref sig .tc := ⟨.hbm, 180, rfl⟩
abbrev main_call2_v27 : Ref sig .tc := ⟨.hbm, 181, rfl⟩
abbrev main_call2_cst_8 : Ref sig .tc := ⟨.hbm, 182, rfl⟩
abbrev main_call2_v28 : Ref sig .tc := ⟨.hbm, 183, rfl⟩
abbrev main_call2_v29 : Ref sig .tc := ⟨.hbm, 184, rfl⟩
abbrev main_call2_cst_9 : Ref sig .tc := ⟨.hbm, 185, rfl⟩
abbrev main_call2_v30 : Ref sig .tc := ⟨.hbm, 186, rfl⟩
abbrev main_call2_v31 : Ref sig .tc := ⟨.hbm, 187, rfl⟩
abbrev main_call2_v32 : Ref sig .tc := ⟨.hbm, 188, rfl⟩
abbrev main_call2_v33 : Ref sig .tc := ⟨.hbm, 189, rfl⟩
abbrev main_call2_cst_10 : Ref sig .tc := ⟨.hbm, 190, rfl⟩
abbrev main_call2_v34 : Ref sig .tc := ⟨.hbm, 191, rfl⟩
abbrev main_call2_cst_11 : Ref sig .tc := ⟨.hbm, 192, rfl⟩
abbrev main_v20_3 : Ref sig .tc := ⟨.hbm, 193, rfl⟩
abbrev main_v21 : Ref sig .tc := ⟨.hbm, 194, rfl⟩
abbrev main_v22 : Ref sig .tc := ⟨.hbm, 195, rfl⟩
abbrev main_v23 : Ref sig .tc := ⟨.hbm, 196, rfl⟩
abbrev main_v24 : Ref sig .tc := ⟨.hbm, 197, rfl⟩
abbrev main_v25 : Ref sig .tc := ⟨.hbm, 198, rfl⟩
abbrev main_v26 : Ref sig .tc := ⟨.hbm, 199, rfl⟩
abbrev main_call3_v0 : Ref sig .tc := ⟨.hbm, 200, rfl⟩
abbrev main_call3_cst : Ref sig .tc := ⟨.hbm, 201, rfl⟩
abbrev main_call3_v1 : Ref sig .tc := ⟨.hbm, 202, rfl⟩
abbrev main_call3_v2 : Ref sig .tc := ⟨.hbm, 203, rfl⟩
abbrev main_call3_cst_0 : Ref sig .tc := ⟨.hbm, 204, rfl⟩
abbrev main_call3_v3 : Ref sig .tc := ⟨.hbm, 205, rfl⟩
abbrev main_call3_v4 : Ref sig .tc := ⟨.hbm, 206, rfl⟩
abbrev main_call3_v5 : Ref sig .tc := ⟨.hbm, 207, rfl⟩
abbrev main_call3_v6 : Ref sig .tc := ⟨.hbm, 208, rfl⟩
abbrev main_call3_v7 : Ref sig .tc := ⟨.hbm, 209, rfl⟩
abbrev main_call3_v8 : Ref sig .tc := ⟨.hbm, 210, rfl⟩
abbrev main_call3_v9 : Ref sig .tc := ⟨.hbm, 211, rfl⟩
abbrev main_call3_cst_1 : Ref sig .tc := ⟨.hbm, 212, rfl⟩
abbrev main_call3_v10 : Ref sig .tc := ⟨.hbm, 213, rfl⟩
abbrev main_call3_v11 : Ref sig .tc := ⟨.hbm, 214, rfl⟩
abbrev main_call3_v12 : Ref sig .tc := ⟨.hbm, 215, rfl⟩
abbrev main_call3_v13 : Ref sig .tc := ⟨.hbm, 216, rfl⟩
abbrev main_call3_call0_v0 : Ref sig .tc := ⟨.hbm, 217, rfl⟩
abbrev main_call3_call0_cst : Ref sig .tc := ⟨.hbm, 218, rfl⟩
abbrev main_call3_call0_c : Ref sig .tc := ⟨.hbm, 219, rfl⟩
abbrev main_call3_call0_v1_0 : Ref sig .tc := ⟨.hbm, 220, rfl⟩
abbrev main_v27_1 : Ref sig .tc := ⟨.hbm, 221, rfl⟩
abbrev main_call3_call1_c : Ref sig .tc := ⟨.hbm, 222, rfl⟩
abbrev main_call3_call1_v0 : Ref sig .tc := ⟨.hbm, 223, rfl⟩
abbrev main_call3_call1_v1 : Ref sig .tc := ⟨.hbm, 224, rfl⟩
abbrev main_call3_call1_c_0 : Ref sig .tc := ⟨.hbm, 225, rfl⟩
abbrev main_call3_call1_v2 : Ref sig .tc := ⟨.hbm, 226, rfl⟩
abbrev main_call3_call1_v3 : Ref sig .tc := ⟨.hbm, 227, rfl⟩
abbrev main_call3_call1_v4 : Ref sig .tc := ⟨.hbm, 228, rfl⟩
abbrev main_call3_call1_v5 : Ref sig .tc := ⟨.hbm, 229, rfl⟩
abbrev main_call3_call1_c_1 : Ref sig .tc := ⟨.hbm, 230, rfl⟩
abbrev main_call3_call1_c_2 : Ref sig .tc := ⟨.hbm, 231, rfl⟩
abbrev main_call3_call1_v6 : Ref sig .tc := ⟨.hbm, 232, rfl⟩
abbrev main_call3_call1_v7 : Ref sig .tc := ⟨.hbm, 233, rfl⟩
abbrev main_call3_call1_v8 : Ref sig .tc := ⟨.hbm, 234, rfl⟩
abbrev main_call3_call1_v9 : Ref sig .tc := ⟨.hbm, 235, rfl⟩
abbrev main_call3_call1_v10 : Ref sig .tc := ⟨.hbm, 236, rfl⟩
abbrev main_call3_call1_v11 : Ref sig .tc := ⟨.hbm, 237, rfl⟩
abbrev main_call3_call1_c_3 : Ref sig .tc := ⟨.hbm, 238, rfl⟩
abbrev main_call3_call1_v12 : Ref sig .tc := ⟨.hbm, 239, rfl⟩
abbrev main_call3_call1_v13 : Ref sig .tc := ⟨.hbm, 240, rfl⟩
abbrev main_call3_call1_v14 : Ref sig .tc := ⟨.hbm, 241, rfl⟩
abbrev main_call3_call1_cst : Ref sig .tc := ⟨.hbm, 242, rfl⟩
abbrev main_call3_call1_v15 : Ref sig .tc := ⟨.hbm, 243, rfl⟩
abbrev main_v27_0 : Ref sig .tc := ⟨.hbm, 244, rfl⟩
abbrev main_call3_v16 : Ref sig .tc := ⟨.hbm, 245, rfl⟩
abbrev main_call3_v17 : Ref sig .tc := ⟨.hbm, 246, rfl⟩
abbrev main_call3_cst_2 : Ref sig .tc := ⟨.hbm, 247, rfl⟩
abbrev main_call3_v18 : Ref sig .tc := ⟨.hbm, 248, rfl⟩
abbrev main_call3_cst_3 : Ref sig .tc := ⟨.hbm, 249, rfl⟩
abbrev main_call3_v19 : Ref sig .tc := ⟨.hbm, 250, rfl⟩
abbrev main_call3_cst_4 : Ref sig .tc := ⟨.hbm, 251, rfl⟩
abbrev main_call3_v20 : Ref sig .tc := ⟨.hbm, 252, rfl⟩
abbrev main_call3_v21 : Ref sig .tc := ⟨.hbm, 253, rfl⟩
abbrev main_call3_v22 : Ref sig .tc := ⟨.hbm, 254, rfl⟩
abbrev main_call3_cst_5 : Ref sig .tc := ⟨.hbm, 255, rfl⟩
abbrev main_call3_v23 : Ref sig .tc := ⟨.hbm, 256, rfl⟩
abbrev main_call3_cst_6 : Ref sig .tc := ⟨.hbm, 257, rfl⟩
abbrev main_call3_v24 : Ref sig .tc := ⟨.hbm, 258, rfl⟩
abbrev main_v27_2 : Ref sig .tc := ⟨.hbm, 259, rfl⟩
abbrev main_call3_call2_v0 : Ref sig .tc := ⟨.hbm, 260, rfl⟩
abbrev main_call3_call2_v1 : Ref sig .tc := ⟨.hbm, 261, rfl⟩
abbrev main_call3_call2_v2 : Ref sig .tc := ⟨.hbm, 262, rfl⟩
abbrev main_call3_call2_v3 : Ref sig .tc := ⟨.hbm, 263, rfl⟩
abbrev main_call3_call2_v4 : Ref sig .tc := ⟨.hbm, 264, rfl⟩
abbrev main_call3_v26 : Ref sig .tc := ⟨.hbm, 265, rfl⟩
abbrev main_call3_cst_7 : Ref sig .tc := ⟨.hbm, 266, rfl⟩
abbrev main_call3_v27 : Ref sig .tc := ⟨.hbm, 267, rfl⟩
abbrev main_call3_cst_8 : Ref sig .tc := ⟨.hbm, 268, rfl⟩
abbrev main_call3_v28 : Ref sig .tc := ⟨.hbm, 269, rfl⟩
abbrev main_call3_v29 : Ref sig .tc := ⟨.hbm, 270, rfl⟩
abbrev main_call3_cst_9 : Ref sig .tc := ⟨.hbm, 271, rfl⟩
abbrev main_call3_v30 : Ref sig .tc := ⟨.hbm, 272, rfl⟩
abbrev main_call3_v31 : Ref sig .tc := ⟨.hbm, 273, rfl⟩
abbrev main_call3_v32 : Ref sig .tc := ⟨.hbm, 274, rfl⟩
abbrev main_call3_v33 : Ref sig .tc := ⟨.hbm, 275, rfl⟩
abbrev main_call3_cst_10 : Ref sig .tc := ⟨.hbm, 276, rfl⟩
abbrev main_call3_v34 : Ref sig .tc := ⟨.hbm, 277, rfl⟩
abbrev main_call3_cst_11 : Ref sig .tc := ⟨.hbm, 278, rfl⟩
abbrev main_v27_3 : Ref sig .tc := ⟨.hbm, 279, rfl⟩
abbrev main_v28 : Ref sig .tc := ⟨.hbm, 280, rfl⟩
abbrev main_v29 : Ref sig .tc := ⟨.hbm, 281, rfl⟩
abbrev main_v30 : Ref sig .tc := ⟨.hbm, 282, rfl⟩
abbrev main_v31 : Ref sig .tc := ⟨.hbm, 283, rfl⟩
abbrev main_v32 : Ref sig .tc := ⟨.hbm, 284, rfl⟩
abbrev main_v33 : Ref sig .tc := ⟨.hbm, 285, rfl⟩
abbrev main_call4_v0 : Ref sig .tc := ⟨.hbm, 286, rfl⟩
abbrev main_call4_cst : Ref sig .tc := ⟨.hbm, 287, rfl⟩
abbrev main_call4_v1 : Ref sig .tc := ⟨.hbm, 288, rfl⟩
abbrev main_call4_v2 : Ref sig .tc := ⟨.hbm, 289, rfl⟩
abbrev main_call4_cst_0 : Ref sig .tc := ⟨.hbm, 290, rfl⟩
abbrev main_call4_v3 : Ref sig .tc := ⟨.hbm, 291, rfl⟩
abbrev main_call4_v4 : Ref sig .tc := ⟨.hbm, 292, rfl⟩
abbrev main_call4_v5 : Ref sig .tc := ⟨.hbm, 293, rfl⟩
abbrev main_call4_v6 : Ref sig .tc := ⟨.hbm, 294, rfl⟩
abbrev main_call4_v7 : Ref sig .tc := ⟨.hbm, 295, rfl⟩
abbrev main_call4_v8 : Ref sig .tc := ⟨.hbm, 296, rfl⟩
abbrev main_call4_v9 : Ref sig .tc := ⟨.hbm, 297, rfl⟩
abbrev main_call4_cst_1 : Ref sig .tc := ⟨.hbm, 298, rfl⟩
abbrev main_call4_v10 : Ref sig .tc := ⟨.hbm, 299, rfl⟩
abbrev main_call4_v11 : Ref sig .tc := ⟨.hbm, 300, rfl⟩
abbrev main_call4_v12 : Ref sig .tc := ⟨.hbm, 301, rfl⟩
abbrev main_call4_v13 : Ref sig .tc := ⟨.hbm, 302, rfl⟩
abbrev main_call4_call0_v0 : Ref sig .tc := ⟨.hbm, 303, rfl⟩
abbrev main_call4_call0_cst : Ref sig .tc := ⟨.hbm, 304, rfl⟩
abbrev main_call4_call0_c : Ref sig .tc := ⟨.hbm, 305, rfl⟩
abbrev main_call4_call0_v1_0 : Ref sig .tc := ⟨.hbm, 306, rfl⟩
abbrev main_v34_1 : Ref sig .tc := ⟨.hbm, 307, rfl⟩
abbrev main_call4_call1_c : Ref sig .tc := ⟨.hbm, 308, rfl⟩
abbrev main_call4_call1_v0 : Ref sig .tc := ⟨.hbm, 309, rfl⟩
abbrev main_call4_call1_v1 : Ref sig .tc := ⟨.hbm, 310, rfl⟩
abbrev main_call4_call1_c_0 : Ref sig .tc := ⟨.hbm, 311, rfl⟩
abbrev main_call4_call1_v2 : Ref sig .tc := ⟨.hbm, 312, rfl⟩
abbrev main_call4_call1_v3 : Ref sig .tc := ⟨.hbm, 313, rfl⟩
abbrev main_call4_call1_v4 : Ref sig .tc := ⟨.hbm, 314, rfl⟩
abbrev main_call4_call1_v5 : Ref sig .tc := ⟨.hbm, 315, rfl⟩
abbrev main_call4_call1_c_1 : Ref sig .tc := ⟨.hbm, 316, rfl⟩
abbrev main_call4_call1_c_2 : Ref sig .tc := ⟨.hbm, 317, rfl⟩
abbrev main_call4_call1_v6 : Ref sig .tc := ⟨.hbm, 318, rfl⟩
abbrev main_call4_call1_v7 : Ref sig .tc := ⟨.hbm, 319, rfl⟩
abbrev main_call4_call1_v8 : Ref sig .tc := ⟨.hbm, 320, rfl⟩
abbrev main_call4_call1_v9 : Ref sig .tc := ⟨.hbm, 321, rfl⟩
abbrev main_call4_call1_v10 : Ref sig .tc := ⟨.hbm, 322, rfl⟩
abbrev main_call4_call1_v11 : Ref sig .tc := ⟨.hbm, 323, rfl⟩
abbrev main_call4_call1_c_3 : Ref sig .tc := ⟨.hbm, 324, rfl⟩
abbrev main_call4_call1_v12 : Ref sig .tc := ⟨.hbm, 325, rfl⟩
abbrev main_call4_call1_v13 : Ref sig .tc := ⟨.hbm, 326, rfl⟩
abbrev main_call4_call1_v14 : Ref sig .tc := ⟨.hbm, 327, rfl⟩
abbrev main_call4_call1_cst : Ref sig .tc := ⟨.hbm, 328, rfl⟩
abbrev main_call4_call1_v15 : Ref sig .tc := ⟨.hbm, 329, rfl⟩
abbrev main_v34_0 : Ref sig .tc := ⟨.hbm, 330, rfl⟩
abbrev main_call4_v16 : Ref sig .tc := ⟨.hbm, 331, rfl⟩
abbrev main_call4_v17 : Ref sig .tc := ⟨.hbm, 332, rfl⟩
abbrev main_call4_cst_2 : Ref sig .tc := ⟨.hbm, 333, rfl⟩
abbrev main_call4_v18 : Ref sig .tc := ⟨.hbm, 334, rfl⟩
abbrev main_call4_cst_3 : Ref sig .tc := ⟨.hbm, 335, rfl⟩
abbrev main_call4_v19 : Ref sig .tc := ⟨.hbm, 336, rfl⟩
abbrev main_call4_cst_4 : Ref sig .tc := ⟨.hbm, 337, rfl⟩
abbrev main_call4_v20 : Ref sig .tc := ⟨.hbm, 338, rfl⟩
abbrev main_call4_v21 : Ref sig .tc := ⟨.hbm, 339, rfl⟩
abbrev main_call4_v22 : Ref sig .tc := ⟨.hbm, 340, rfl⟩
abbrev main_call4_cst_5 : Ref sig .tc := ⟨.hbm, 341, rfl⟩
abbrev main_call4_v23 : Ref sig .tc := ⟨.hbm, 342, rfl⟩
abbrev main_call4_cst_6 : Ref sig .tc := ⟨.hbm, 343, rfl⟩
abbrev main_call4_v24 : Ref sig .tc := ⟨.hbm, 344, rfl⟩
abbrev main_v34_2 : Ref sig .tc := ⟨.hbm, 345, rfl⟩
abbrev main_call4_call2_v0 : Ref sig .tc := ⟨.hbm, 346, rfl⟩
abbrev main_call4_call2_v1 : Ref sig .tc := ⟨.hbm, 347, rfl⟩
abbrev main_call4_call2_v2 : Ref sig .tc := ⟨.hbm, 348, rfl⟩
abbrev main_call4_call2_v3 : Ref sig .tc := ⟨.hbm, 349, rfl⟩
abbrev main_call4_call2_v4 : Ref sig .tc := ⟨.hbm, 350, rfl⟩
abbrev main_call4_v26 : Ref sig .tc := ⟨.hbm, 351, rfl⟩
abbrev main_call4_cst_7 : Ref sig .tc := ⟨.hbm, 352, rfl⟩
abbrev main_call4_v27 : Ref sig .tc := ⟨.hbm, 353, rfl⟩
abbrev main_call4_cst_8 : Ref sig .tc := ⟨.hbm, 354, rfl⟩
abbrev main_call4_v28 : Ref sig .tc := ⟨.hbm, 355, rfl⟩
abbrev main_call4_v29 : Ref sig .tc := ⟨.hbm, 356, rfl⟩
abbrev main_call4_cst_9 : Ref sig .tc := ⟨.hbm, 357, rfl⟩
abbrev main_call4_v30 : Ref sig .tc := ⟨.hbm, 358, rfl⟩
abbrev main_call4_v31 : Ref sig .tc := ⟨.hbm, 359, rfl⟩
abbrev main_call4_v32 : Ref sig .tc := ⟨.hbm, 360, rfl⟩
abbrev main_call4_v33 : Ref sig .tc := ⟨.hbm, 361, rfl⟩
abbrev main_call4_cst_10 : Ref sig .tc := ⟨.hbm, 362, rfl⟩
abbrev main_call4_v34 : Ref sig .tc := ⟨.hbm, 363, rfl⟩
abbrev main_call4_cst_11 : Ref sig .tc := ⟨.hbm, 364, rfl⟩
abbrev main_v34_3 : Ref sig .tc := ⟨.hbm, 365, rfl⟩
abbrev main_v35 : Ref sig .tc := ⟨.hbm, 366, rfl⟩
abbrev main_v36 : Ref sig .tc := ⟨.hbm, 367, rfl⟩
abbrev main_v37 : Ref sig .tc := ⟨.hbm, 368, rfl⟩
abbrev main_v38 : Ref sig .tc := ⟨.hbm, 369, rfl⟩
abbrev main_v39 : Ref sig .tc := ⟨.hbm, 370, rfl⟩
abbrev main_v40 : Ref sig .tc := ⟨.hbm, 371, rfl⟩
abbrev main_call5_v0 : Ref sig .tc := ⟨.hbm, 372, rfl⟩
abbrev main_call5_cst : Ref sig .tc := ⟨.hbm, 373, rfl⟩
abbrev main_call5_v1 : Ref sig .tc := ⟨.hbm, 374, rfl⟩
abbrev main_call5_v2 : Ref sig .tc := ⟨.hbm, 375, rfl⟩
abbrev main_call5_cst_0 : Ref sig .tc := ⟨.hbm, 376, rfl⟩
abbrev main_call5_v3 : Ref sig .tc := ⟨.hbm, 377, rfl⟩
abbrev main_call5_v4 : Ref sig .tc := ⟨.hbm, 378, rfl⟩
abbrev main_call5_v5 : Ref sig .tc := ⟨.hbm, 379, rfl⟩
abbrev main_call5_v6 : Ref sig .tc := ⟨.hbm, 380, rfl⟩
abbrev main_call5_v7 : Ref sig .tc := ⟨.hbm, 381, rfl⟩
abbrev main_call5_v8 : Ref sig .tc := ⟨.hbm, 382, rfl⟩
abbrev main_call5_v9 : Ref sig .tc := ⟨.hbm, 383, rfl⟩
abbrev main_call5_cst_1 : Ref sig .tc := ⟨.hbm, 384, rfl⟩
abbrev main_call5_v10 : Ref sig .tc := ⟨.hbm, 385, rfl⟩
abbrev main_call5_v11 : Ref sig .tc := ⟨.hbm, 386, rfl⟩
abbrev main_call5_v12 : Ref sig .tc := ⟨.hbm, 387, rfl⟩
abbrev main_call5_v13 : Ref sig .tc := ⟨.hbm, 388, rfl⟩
abbrev main_call5_call0_v0 : Ref sig .tc := ⟨.hbm, 389, rfl⟩
abbrev main_call5_call0_cst : Ref sig .tc := ⟨.hbm, 390, rfl⟩
abbrev main_call5_call0_c : Ref sig .tc := ⟨.hbm, 391, rfl⟩
abbrev main_call5_call0_v1_0 : Ref sig .tc := ⟨.hbm, 392, rfl⟩
abbrev main_v41_1 : Ref sig .tc := ⟨.hbm, 393, rfl⟩
abbrev main_call5_call1_c : Ref sig .tc := ⟨.hbm, 394, rfl⟩
abbrev main_call5_call1_v0 : Ref sig .tc := ⟨.hbm, 395, rfl⟩
abbrev main_call5_call1_v1 : Ref sig .tc := ⟨.hbm, 396, rfl⟩
abbrev main_call5_call1_c_0 : Ref sig .tc := ⟨.hbm, 397, rfl⟩
abbrev main_call5_call1_v2 : Ref sig .tc := ⟨.hbm, 398, rfl⟩
abbrev main_call5_call1_v3 : Ref sig .tc := ⟨.hbm, 399, rfl⟩
abbrev main_call5_call1_v4 : Ref sig .tc := ⟨.hbm, 400, rfl⟩
abbrev main_call5_call1_v5 : Ref sig .tc := ⟨.hbm, 401, rfl⟩
abbrev main_call5_call1_c_1 : Ref sig .tc := ⟨.hbm, 402, rfl⟩
abbrev main_call5_call1_c_2 : Ref sig .tc := ⟨.hbm, 403, rfl⟩
abbrev main_call5_call1_v6 : Ref sig .tc := ⟨.hbm, 404, rfl⟩
abbrev main_call5_call1_v7 : Ref sig .tc := ⟨.hbm, 405, rfl⟩
abbrev main_call5_call1_v8 : Ref sig .tc := ⟨.hbm, 406, rfl⟩
abbrev main_call5_call1_v9 : Ref sig .tc := ⟨.hbm, 407, rfl⟩
abbrev main_call5_call1_v10 : Ref sig .tc := ⟨.hbm, 408, rfl⟩
abbrev main_call5_call1_v11 : Ref sig .tc := ⟨.hbm, 409, rfl⟩
abbrev main_call5_call1_c_3 : Ref sig .tc := ⟨.hbm, 410, rfl⟩
abbrev main_call5_call1_v12 : Ref sig .tc := ⟨.hbm, 411, rfl⟩
abbrev main_call5_call1_v13 : Ref sig .tc := ⟨.hbm, 412, rfl⟩
abbrev main_call5_call1_v14 : Ref sig .tc := ⟨.hbm, 413, rfl⟩
abbrev main_call5_call1_cst : Ref sig .tc := ⟨.hbm, 414, rfl⟩
abbrev main_call5_call1_v15 : Ref sig .tc := ⟨.hbm, 415, rfl⟩
abbrev main_v41_0 : Ref sig .tc := ⟨.hbm, 416, rfl⟩
abbrev main_call5_v16 : Ref sig .tc := ⟨.hbm, 417, rfl⟩
abbrev main_call5_v17 : Ref sig .tc := ⟨.hbm, 418, rfl⟩
abbrev main_call5_cst_2 : Ref sig .tc := ⟨.hbm, 419, rfl⟩
abbrev main_call5_v18 : Ref sig .tc := ⟨.hbm, 420, rfl⟩
abbrev main_call5_cst_3 : Ref sig .tc := ⟨.hbm, 421, rfl⟩
abbrev main_call5_v19 : Ref sig .tc := ⟨.hbm, 422, rfl⟩
abbrev main_call5_cst_4 : Ref sig .tc := ⟨.hbm, 423, rfl⟩
abbrev main_call5_v20 : Ref sig .tc := ⟨.hbm, 424, rfl⟩
abbrev main_call5_v21 : Ref sig .tc := ⟨.hbm, 425, rfl⟩
abbrev main_call5_v22 : Ref sig .tc := ⟨.hbm, 426, rfl⟩
abbrev main_call5_cst_5 : Ref sig .tc := ⟨.hbm, 427, rfl⟩
abbrev main_call5_v23 : Ref sig .tc := ⟨.hbm, 428, rfl⟩
abbrev main_call5_cst_6 : Ref sig .tc := ⟨.hbm, 429, rfl⟩
abbrev main_call5_v24 : Ref sig .tc := ⟨.hbm, 430, rfl⟩
abbrev main_v41_2 : Ref sig .tc := ⟨.hbm, 431, rfl⟩
abbrev main_call5_call2_v0 : Ref sig .tc := ⟨.hbm, 432, rfl⟩
abbrev main_call5_call2_v1 : Ref sig .tc := ⟨.hbm, 433, rfl⟩
abbrev main_call5_call2_v2 : Ref sig .tc := ⟨.hbm, 434, rfl⟩
abbrev main_call5_call2_v3 : Ref sig .tc := ⟨.hbm, 435, rfl⟩
abbrev main_call5_call2_v4 : Ref sig .tc := ⟨.hbm, 436, rfl⟩
abbrev main_call5_v26 : Ref sig .tc := ⟨.hbm, 437, rfl⟩
abbrev main_call5_cst_7 : Ref sig .tc := ⟨.hbm, 438, rfl⟩
abbrev main_call5_v27 : Ref sig .tc := ⟨.hbm, 439, rfl⟩
abbrev main_call5_cst_8 : Ref sig .tc := ⟨.hbm, 440, rfl⟩
abbrev main_call5_v28 : Ref sig .tc := ⟨.hbm, 441, rfl⟩
abbrev main_call5_v29 : Ref sig .tc := ⟨.hbm, 442, rfl⟩
abbrev main_call5_cst_9 : Ref sig .tc := ⟨.hbm, 443, rfl⟩
abbrev main_call5_v30 : Ref sig .tc := ⟨.hbm, 444, rfl⟩
abbrev main_call5_v31 : Ref sig .tc := ⟨.hbm, 445, rfl⟩
abbrev main_call5_v32 : Ref sig .tc := ⟨.hbm, 446, rfl⟩
abbrev main_call5_v33 : Ref sig .tc := ⟨.hbm, 447, rfl⟩
abbrev main_call5_cst_10 : Ref sig .tc := ⟨.hbm, 448, rfl⟩
abbrev main_call5_v34 : Ref sig .tc := ⟨.hbm, 449, rfl⟩
abbrev main_call5_cst_11 : Ref sig .tc := ⟨.hbm, 450, rfl⟩
abbrev main_v41_3 : Ref sig .tc := ⟨.hbm, 451, rfl⟩
abbrev main_v42 : Ref sig .tc := ⟨.hbm, 452, rfl⟩
abbrev main_v43 : Ref sig .tc := ⟨.hbm, 453, rfl⟩
abbrev main_v44 : Ref sig .tc := ⟨.hbm, 454, rfl⟩
abbrev main_v45 : Ref sig .tc := ⟨.hbm, 455, rfl⟩
abbrev main_v46 : Ref sig .tc := ⟨.hbm, 456, rfl⟩
abbrev main_v47 : Ref sig .tc := ⟨.hbm, 457, rfl⟩
abbrev main_call6_v0 : Ref sig .tc := ⟨.hbm, 458, rfl⟩
abbrev main_call6_cst : Ref sig .tc := ⟨.hbm, 459, rfl⟩
abbrev main_call6_v1 : Ref sig .tc := ⟨.hbm, 460, rfl⟩
abbrev main_call6_v2 : Ref sig .tc := ⟨.hbm, 461, rfl⟩
abbrev main_call6_cst_0 : Ref sig .tc := ⟨.hbm, 462, rfl⟩
abbrev main_call6_v3 : Ref sig .tc := ⟨.hbm, 463, rfl⟩
abbrev main_call6_v4 : Ref sig .tc := ⟨.hbm, 464, rfl⟩
abbrev main_call6_v5 : Ref sig .tc := ⟨.hbm, 465, rfl⟩
abbrev main_call6_v6 : Ref sig .tc := ⟨.hbm, 466, rfl⟩
abbrev main_call6_v7 : Ref sig .tc := ⟨.hbm, 467, rfl⟩
abbrev main_call6_v8 : Ref sig .tc := ⟨.hbm, 468, rfl⟩
abbrev main_call6_v9 : Ref sig .tc := ⟨.hbm, 469, rfl⟩
abbrev main_call6_cst_1 : Ref sig .tc := ⟨.hbm, 470, rfl⟩
abbrev main_call6_v10 : Ref sig .tc := ⟨.hbm, 471, rfl⟩
abbrev main_call6_v11 : Ref sig .tc := ⟨.hbm, 472, rfl⟩
abbrev main_call6_v12 : Ref sig .tc := ⟨.hbm, 473, rfl⟩
abbrev main_call6_v13 : Ref sig .tc := ⟨.hbm, 474, rfl⟩
abbrev main_call6_call0_v0 : Ref sig .tc := ⟨.hbm, 475, rfl⟩
abbrev main_call6_call0_cst : Ref sig .tc := ⟨.hbm, 476, rfl⟩
abbrev main_call6_call0_c : Ref sig .tc := ⟨.hbm, 477, rfl⟩
abbrev main_call6_call0_v1_0 : Ref sig .tc := ⟨.hbm, 478, rfl⟩
abbrev main_v48_1 : Ref sig .tc := ⟨.hbm, 479, rfl⟩
abbrev main_call6_call1_c : Ref sig .tc := ⟨.hbm, 480, rfl⟩
abbrev main_call6_call1_v0 : Ref sig .tc := ⟨.hbm, 481, rfl⟩
abbrev main_call6_call1_v1 : Ref sig .tc := ⟨.hbm, 482, rfl⟩
abbrev main_call6_call1_c_0 : Ref sig .tc := ⟨.hbm, 483, rfl⟩
abbrev main_call6_call1_v2 : Ref sig .tc := ⟨.hbm, 484, rfl⟩
abbrev main_call6_call1_v3 : Ref sig .tc := ⟨.hbm, 485, rfl⟩
abbrev main_call6_call1_v4 : Ref sig .tc := ⟨.hbm, 486, rfl⟩
abbrev main_call6_call1_v5 : Ref sig .tc := ⟨.hbm, 487, rfl⟩
abbrev main_call6_call1_c_1 : Ref sig .tc := ⟨.hbm, 488, rfl⟩
abbrev main_call6_call1_c_2 : Ref sig .tc := ⟨.hbm, 489, rfl⟩
abbrev main_call6_call1_v6 : Ref sig .tc := ⟨.hbm, 490, rfl⟩
abbrev main_call6_call1_v7 : Ref sig .tc := ⟨.hbm, 491, rfl⟩
abbrev main_call6_call1_v8 : Ref sig .tc := ⟨.hbm, 492, rfl⟩
abbrev main_call6_call1_v9 : Ref sig .tc := ⟨.hbm, 493, rfl⟩
abbrev main_call6_call1_v10 : Ref sig .tc := ⟨.hbm, 494, rfl⟩
abbrev main_call6_call1_v11 : Ref sig .tc := ⟨.hbm, 495, rfl⟩
abbrev main_call6_call1_c_3 : Ref sig .tc := ⟨.hbm, 496, rfl⟩
abbrev main_call6_call1_v12 : Ref sig .tc := ⟨.hbm, 497, rfl⟩
abbrev main_call6_call1_v13 : Ref sig .tc := ⟨.hbm, 498, rfl⟩
abbrev main_call6_call1_v14 : Ref sig .tc := ⟨.hbm, 499, rfl⟩
abbrev main_call6_call1_cst : Ref sig .tc := ⟨.hbm, 500, rfl⟩
abbrev main_call6_call1_v15 : Ref sig .tc := ⟨.hbm, 501, rfl⟩
abbrev main_v48_0 : Ref sig .tc := ⟨.hbm, 502, rfl⟩
abbrev main_call6_v16 : Ref sig .tc := ⟨.hbm, 503, rfl⟩
abbrev main_call6_v17 : Ref sig .tc := ⟨.hbm, 504, rfl⟩
abbrev main_call6_cst_2 : Ref sig .tc := ⟨.hbm, 505, rfl⟩
abbrev main_call6_v18 : Ref sig .tc := ⟨.hbm, 506, rfl⟩
abbrev main_call6_cst_3 : Ref sig .tc := ⟨.hbm, 507, rfl⟩
abbrev main_call6_v19 : Ref sig .tc := ⟨.hbm, 508, rfl⟩
abbrev main_call6_cst_4 : Ref sig .tc := ⟨.hbm, 509, rfl⟩
abbrev main_call6_v20 : Ref sig .tc := ⟨.hbm, 510, rfl⟩
abbrev main_call6_v21 : Ref sig .tc := ⟨.hbm, 511, rfl⟩
abbrev main_call6_v22 : Ref sig .tc := ⟨.hbm, 512, rfl⟩
abbrev main_call6_cst_5 : Ref sig .tc := ⟨.hbm, 513, rfl⟩
abbrev main_call6_v23 : Ref sig .tc := ⟨.hbm, 514, rfl⟩
abbrev main_call6_cst_6 : Ref sig .tc := ⟨.hbm, 515, rfl⟩
abbrev main_call6_v24 : Ref sig .tc := ⟨.hbm, 516, rfl⟩
abbrev main_v48_2 : Ref sig .tc := ⟨.hbm, 517, rfl⟩
abbrev main_call6_call2_v0 : Ref sig .tc := ⟨.hbm, 518, rfl⟩
abbrev main_call6_call2_v1 : Ref sig .tc := ⟨.hbm, 519, rfl⟩
abbrev main_call6_call2_v2 : Ref sig .tc := ⟨.hbm, 520, rfl⟩
abbrev main_call6_call2_v3 : Ref sig .tc := ⟨.hbm, 521, rfl⟩
abbrev main_call6_call2_v4 : Ref sig .tc := ⟨.hbm, 522, rfl⟩
abbrev main_call6_v26 : Ref sig .tc := ⟨.hbm, 523, rfl⟩
abbrev main_call6_cst_7 : Ref sig .tc := ⟨.hbm, 524, rfl⟩
abbrev main_call6_v27 : Ref sig .tc := ⟨.hbm, 525, rfl⟩
abbrev main_call6_cst_8 : Ref sig .tc := ⟨.hbm, 526, rfl⟩
abbrev main_call6_v28 : Ref sig .tc := ⟨.hbm, 527, rfl⟩
abbrev main_call6_v29 : Ref sig .tc := ⟨.hbm, 528, rfl⟩
abbrev main_call6_cst_9 : Ref sig .tc := ⟨.hbm, 529, rfl⟩
abbrev main_call6_v30 : Ref sig .tc := ⟨.hbm, 530, rfl⟩
abbrev main_call6_v31 : Ref sig .tc := ⟨.hbm, 531, rfl⟩
abbrev main_call6_v32 : Ref sig .tc := ⟨.hbm, 532, rfl⟩
abbrev main_call6_v33 : Ref sig .tc := ⟨.hbm, 533, rfl⟩
abbrev main_call6_cst_10 : Ref sig .tc := ⟨.hbm, 534, rfl⟩
abbrev main_call6_v34 : Ref sig .tc := ⟨.hbm, 535, rfl⟩
abbrev main_call6_cst_11 : Ref sig .tc := ⟨.hbm, 536, rfl⟩
abbrev main_v48_3 : Ref sig .tc := ⟨.hbm, 537, rfl⟩
abbrev main_v49 : Ref sig .tc := ⟨.hbm, 538, rfl⟩
abbrev main_v50 : Ref sig .tc := ⟨.hbm, 539, rfl⟩
abbrev main_v51 : Ref sig .tc := ⟨.hbm, 540, rfl⟩
abbrev main_v52 : Ref sig .tc := ⟨.hbm, 541, rfl⟩
abbrev main_v53 : Ref sig .tc := ⟨.hbm, 542, rfl⟩
abbrev main_v54 : Ref sig .tc := ⟨.hbm, 543, rfl⟩
abbrev main_call7_v0 : Ref sig .tc := ⟨.hbm, 544, rfl⟩
abbrev main_call7_cst : Ref sig .tc := ⟨.hbm, 545, rfl⟩
abbrev main_call7_v1 : Ref sig .tc := ⟨.hbm, 546, rfl⟩
abbrev main_call7_v2 : Ref sig .tc := ⟨.hbm, 547, rfl⟩
abbrev main_call7_cst_0 : Ref sig .tc := ⟨.hbm, 548, rfl⟩
abbrev main_call7_v3 : Ref sig .tc := ⟨.hbm, 549, rfl⟩
abbrev main_call7_v4 : Ref sig .tc := ⟨.hbm, 550, rfl⟩
abbrev main_call7_v5 : Ref sig .tc := ⟨.hbm, 551, rfl⟩
abbrev main_call7_v6 : Ref sig .tc := ⟨.hbm, 552, rfl⟩
abbrev main_call7_v7 : Ref sig .tc := ⟨.hbm, 553, rfl⟩
abbrev main_call7_v8 : Ref sig .tc := ⟨.hbm, 554, rfl⟩
abbrev main_call7_v9 : Ref sig .tc := ⟨.hbm, 555, rfl⟩
abbrev main_call7_cst_1 : Ref sig .tc := ⟨.hbm, 556, rfl⟩
abbrev main_call7_v10 : Ref sig .tc := ⟨.hbm, 557, rfl⟩
abbrev main_call7_v11 : Ref sig .tc := ⟨.hbm, 558, rfl⟩
abbrev main_call7_v12 : Ref sig .tc := ⟨.hbm, 559, rfl⟩
abbrev main_call7_v13 : Ref sig .tc := ⟨.hbm, 560, rfl⟩
abbrev main_call7_call0_v0 : Ref sig .tc := ⟨.hbm, 561, rfl⟩
abbrev main_call7_call0_cst : Ref sig .tc := ⟨.hbm, 562, rfl⟩
abbrev main_call7_call0_c : Ref sig .tc := ⟨.hbm, 563, rfl⟩
abbrev main_call7_call0_v1_0 : Ref sig .tc := ⟨.hbm, 564, rfl⟩
abbrev main_v55_1 : Ref sig .tc := ⟨.hbm, 565, rfl⟩
abbrev main_call7_call1_c : Ref sig .tc := ⟨.hbm, 566, rfl⟩
abbrev main_call7_call1_v0 : Ref sig .tc := ⟨.hbm, 567, rfl⟩
abbrev main_call7_call1_v1 : Ref sig .tc := ⟨.hbm, 568, rfl⟩
abbrev main_call7_call1_c_0 : Ref sig .tc := ⟨.hbm, 569, rfl⟩
abbrev main_call7_call1_v2 : Ref sig .tc := ⟨.hbm, 570, rfl⟩
abbrev main_call7_call1_v3 : Ref sig .tc := ⟨.hbm, 571, rfl⟩
abbrev main_call7_call1_v4 : Ref sig .tc := ⟨.hbm, 572, rfl⟩
abbrev main_call7_call1_v5 : Ref sig .tc := ⟨.hbm, 573, rfl⟩
abbrev main_call7_call1_c_1 : Ref sig .tc := ⟨.hbm, 574, rfl⟩
abbrev main_call7_call1_c_2 : Ref sig .tc := ⟨.hbm, 575, rfl⟩
abbrev main_call7_call1_v6 : Ref sig .tc := ⟨.hbm, 576, rfl⟩
abbrev main_call7_call1_v7 : Ref sig .tc := ⟨.hbm, 577, rfl⟩
abbrev main_call7_call1_v8 : Ref sig .tc := ⟨.hbm, 578, rfl⟩
abbrev main_call7_call1_v9 : Ref sig .tc := ⟨.hbm, 579, rfl⟩
abbrev main_call7_call1_v10 : Ref sig .tc := ⟨.hbm, 580, rfl⟩
abbrev main_call7_call1_v11 : Ref sig .tc := ⟨.hbm, 581, rfl⟩
abbrev main_call7_call1_c_3 : Ref sig .tc := ⟨.hbm, 582, rfl⟩
abbrev main_call7_call1_v12 : Ref sig .tc := ⟨.hbm, 583, rfl⟩
abbrev main_call7_call1_v13 : Ref sig .tc := ⟨.hbm, 584, rfl⟩
abbrev main_call7_call1_v14 : Ref sig .tc := ⟨.hbm, 585, rfl⟩
abbrev main_call7_call1_cst : Ref sig .tc := ⟨.hbm, 586, rfl⟩
abbrev main_call7_call1_v15 : Ref sig .tc := ⟨.hbm, 587, rfl⟩
abbrev main_v55_0 : Ref sig .tc := ⟨.hbm, 588, rfl⟩
abbrev main_call7_v16 : Ref sig .tc := ⟨.hbm, 589, rfl⟩
abbrev main_call7_v17 : Ref sig .tc := ⟨.hbm, 590, rfl⟩
abbrev main_call7_cst_2 : Ref sig .tc := ⟨.hbm, 591, rfl⟩
abbrev main_call7_v18 : Ref sig .tc := ⟨.hbm, 592, rfl⟩
abbrev main_call7_cst_3 : Ref sig .tc := ⟨.hbm, 593, rfl⟩
abbrev main_call7_v19 : Ref sig .tc := ⟨.hbm, 594, rfl⟩
abbrev main_call7_cst_4 : Ref sig .tc := ⟨.hbm, 595, rfl⟩
abbrev main_call7_v20 : Ref sig .tc := ⟨.hbm, 596, rfl⟩
abbrev main_call7_v21 : Ref sig .tc := ⟨.hbm, 597, rfl⟩
abbrev main_call7_v22 : Ref sig .tc := ⟨.hbm, 598, rfl⟩
abbrev main_call7_cst_5 : Ref sig .tc := ⟨.hbm, 599, rfl⟩
abbrev main_call7_v23 : Ref sig .tc := ⟨.hbm, 600, rfl⟩
abbrev main_call7_cst_6 : Ref sig .tc := ⟨.hbm, 601, rfl⟩
abbrev main_call7_v24 : Ref sig .tc := ⟨.hbm, 602, rfl⟩
abbrev main_v55_2 : Ref sig .tc := ⟨.hbm, 603, rfl⟩
abbrev main_call7_call2_v0 : Ref sig .tc := ⟨.hbm, 604, rfl⟩
abbrev main_call7_call2_v1 : Ref sig .tc := ⟨.hbm, 605, rfl⟩
abbrev main_call7_call2_v2 : Ref sig .tc := ⟨.hbm, 606, rfl⟩
abbrev main_call7_call2_v3 : Ref sig .tc := ⟨.hbm, 607, rfl⟩
abbrev main_call7_call2_v4 : Ref sig .tc := ⟨.hbm, 608, rfl⟩
abbrev main_call7_v26 : Ref sig .tc := ⟨.hbm, 609, rfl⟩
abbrev main_call7_cst_7 : Ref sig .tc := ⟨.hbm, 610, rfl⟩
abbrev main_call7_v27 : Ref sig .tc := ⟨.hbm, 611, rfl⟩
abbrev main_call7_cst_8 : Ref sig .tc := ⟨.hbm, 612, rfl⟩
abbrev main_call7_v28 : Ref sig .tc := ⟨.hbm, 613, rfl⟩
abbrev main_call7_v29 : Ref sig .tc := ⟨.hbm, 614, rfl⟩
abbrev main_call7_cst_9 : Ref sig .tc := ⟨.hbm, 615, rfl⟩
abbrev main_call7_v30 : Ref sig .tc := ⟨.hbm, 616, rfl⟩
abbrev main_call7_v31 : Ref sig .tc := ⟨.hbm, 617, rfl⟩
abbrev main_call7_v32 : Ref sig .tc := ⟨.hbm, 618, rfl⟩
abbrev main_call7_v33 : Ref sig .tc := ⟨.hbm, 619, rfl⟩
abbrev main_call7_cst_10 : Ref sig .tc := ⟨.hbm, 620, rfl⟩
abbrev main_call7_v34 : Ref sig .tc := ⟨.hbm, 621, rfl⟩
abbrev main_call7_cst_11 : Ref sig .tc := ⟨.hbm, 622, rfl⟩
abbrev main_v55_3 : Ref sig .tc := ⟨.hbm, 623, rfl⟩
abbrev main_v56 : Ref sig .tc := ⟨.hbm, 624, rfl⟩
abbrev main_v57 : Ref sig .tc := ⟨.hbm, 625, rfl⟩
abbrev main_v58 : Ref sig .tc := ⟨.hbm, 626, rfl⟩
abbrev main_v59 : Ref sig .tc := ⟨.hbm, 627, rfl⟩
abbrev main_v60 : Ref sig .tc := ⟨.hbm, 628, rfl⟩
abbrev main_v61 : Ref sig .tc := ⟨.hbm, 629, rfl⟩
abbrev main_call8_v0 : Ref sig .tc := ⟨.hbm, 630, rfl⟩
abbrev main_call8_cst : Ref sig .tc := ⟨.hbm, 631, rfl⟩
abbrev main_call8_v1 : Ref sig .tc := ⟨.hbm, 632, rfl⟩
abbrev main_call8_v2 : Ref sig .tc := ⟨.hbm, 633, rfl⟩
abbrev main_call8_cst_0 : Ref sig .tc := ⟨.hbm, 634, rfl⟩
abbrev main_call8_v3 : Ref sig .tc := ⟨.hbm, 635, rfl⟩
abbrev main_call8_v4 : Ref sig .tc := ⟨.hbm, 636, rfl⟩
abbrev main_call8_v5 : Ref sig .tc := ⟨.hbm, 637, rfl⟩
abbrev main_call8_v6 : Ref sig .tc := ⟨.hbm, 638, rfl⟩
abbrev main_call8_v7 : Ref sig .tc := ⟨.hbm, 639, rfl⟩
abbrev main_call8_v8 : Ref sig .tc := ⟨.hbm, 640, rfl⟩
abbrev main_call8_v9 : Ref sig .tc := ⟨.hbm, 641, rfl⟩
abbrev main_call8_cst_1 : Ref sig .tc := ⟨.hbm, 642, rfl⟩
abbrev main_call8_v10 : Ref sig .tc := ⟨.hbm, 643, rfl⟩
abbrev main_call8_v11 : Ref sig .tc := ⟨.hbm, 644, rfl⟩
abbrev main_call8_v12 : Ref sig .tc := ⟨.hbm, 645, rfl⟩
abbrev main_call8_v13 : Ref sig .tc := ⟨.hbm, 646, rfl⟩
abbrev main_call8_call0_v0 : Ref sig .tc := ⟨.hbm, 647, rfl⟩
abbrev main_call8_call0_cst : Ref sig .tc := ⟨.hbm, 648, rfl⟩
abbrev main_call8_call0_c : Ref sig .tc := ⟨.hbm, 649, rfl⟩
abbrev main_call8_call0_v1_0 : Ref sig .tc := ⟨.hbm, 650, rfl⟩
abbrev main_v62_1 : Ref sig .tc := ⟨.hbm, 651, rfl⟩
abbrev main_call8_call1_c : Ref sig .tc := ⟨.hbm, 652, rfl⟩
abbrev main_call8_call1_v0 : Ref sig .tc := ⟨.hbm, 653, rfl⟩
abbrev main_call8_call1_v1 : Ref sig .tc := ⟨.hbm, 654, rfl⟩
abbrev main_call8_call1_c_0 : Ref sig .tc := ⟨.hbm, 655, rfl⟩
abbrev main_call8_call1_v2 : Ref sig .tc := ⟨.hbm, 656, rfl⟩
abbrev main_call8_call1_v3 : Ref sig .tc := ⟨.hbm, 657, rfl⟩
abbrev main_call8_call1_v4 : Ref sig .tc := ⟨.hbm, 658, rfl⟩
abbrev main_call8_call1_v5 : Ref sig .tc := ⟨.hbm, 659, rfl⟩
abbrev main_call8_call1_c_1 : Ref sig .tc := ⟨.hbm, 660, rfl⟩
abbrev main_call8_call1_c_2 : Ref sig .tc := ⟨.hbm, 661, rfl⟩
abbrev main_call8_call1_v6 : Ref sig .tc := ⟨.hbm, 662, rfl⟩
abbrev main_call8_call1_v7 : Ref sig .tc := ⟨.hbm, 663, rfl⟩
abbrev main_call8_call1_v8 : Ref sig .tc := ⟨.hbm, 664, rfl⟩
abbrev main_call8_call1_v9 : Ref sig .tc := ⟨.hbm, 665, rfl⟩
abbrev main_call8_call1_v10 : Ref sig .tc := ⟨.hbm, 666, rfl⟩
abbrev main_call8_call1_v11 : Ref sig .tc := ⟨.hbm, 667, rfl⟩
abbrev main_call8_call1_c_3 : Ref sig .tc := ⟨.hbm, 668, rfl⟩
abbrev main_call8_call1_v12 : Ref sig .tc := ⟨.hbm, 669, rfl⟩
abbrev main_call8_call1_v13 : Ref sig .tc := ⟨.hbm, 670, rfl⟩
abbrev main_call8_call1_v14 : Ref sig .tc := ⟨.hbm, 671, rfl⟩
abbrev main_call8_call1_cst : Ref sig .tc := ⟨.hbm, 672, rfl⟩
abbrev main_call8_call1_v15 : Ref sig .tc := ⟨.hbm, 673, rfl⟩
abbrev main_v62_0 : Ref sig .tc := ⟨.hbm, 674, rfl⟩
abbrev main_call8_v16 : Ref sig .tc := ⟨.hbm, 675, rfl⟩
abbrev main_call8_v17 : Ref sig .tc := ⟨.hbm, 676, rfl⟩
abbrev main_call8_cst_2 : Ref sig .tc := ⟨.hbm, 677, rfl⟩
abbrev main_call8_v18 : Ref sig .tc := ⟨.hbm, 678, rfl⟩
abbrev main_call8_cst_3 : Ref sig .tc := ⟨.hbm, 679, rfl⟩
abbrev main_call8_v19 : Ref sig .tc := ⟨.hbm, 680, rfl⟩
abbrev main_call8_cst_4 : Ref sig .tc := ⟨.hbm, 681, rfl⟩
abbrev main_call8_v20 : Ref sig .tc := ⟨.hbm, 682, rfl⟩
abbrev main_call8_v21 : Ref sig .tc := ⟨.hbm, 683, rfl⟩
abbrev main_call8_v22 : Ref sig .tc := ⟨.hbm, 684, rfl⟩
abbrev main_call8_cst_5 : Ref sig .tc := ⟨.hbm, 685, rfl⟩
abbrev main_call8_v23 : Ref sig .tc := ⟨.hbm, 686, rfl⟩
abbrev main_call8_cst_6 : Ref sig .tc := ⟨.hbm, 687, rfl⟩
abbrev main_call8_v24 : Ref sig .tc := ⟨.hbm, 688, rfl⟩
abbrev main_v62_2 : Ref sig .tc := ⟨.hbm, 689, rfl⟩
abbrev main_call8_call2_v0 : Ref sig .tc := ⟨.hbm, 690, rfl⟩
abbrev main_call8_call2_v1 : Ref sig .tc := ⟨.hbm, 691, rfl⟩
abbrev main_call8_call2_v2 : Ref sig .tc := ⟨.hbm, 692, rfl⟩
abbrev main_call8_call2_v3 : Ref sig .tc := ⟨.hbm, 693, rfl⟩
abbrev main_call8_call2_v4 : Ref sig .tc := ⟨.hbm, 694, rfl⟩
abbrev main_call8_v26 : Ref sig .tc := ⟨.hbm, 695, rfl⟩
abbrev main_call8_cst_7 : Ref sig .tc := ⟨.hbm, 696, rfl⟩
abbrev main_call8_v27 : Ref sig .tc := ⟨.hbm, 697, rfl⟩
abbrev main_call8_cst_8 : Ref sig .tc := ⟨.hbm, 698, rfl⟩
abbrev main_call8_v28 : Ref sig .tc := ⟨.hbm, 699, rfl⟩
abbrev main_call8_v29 : Ref sig .tc := ⟨.hbm, 700, rfl⟩
abbrev main_call8_cst_9 : Ref sig .tc := ⟨.hbm, 701, rfl⟩
abbrev main_call8_v30 : Ref sig .tc := ⟨.hbm, 702, rfl⟩
abbrev main_call8_v31 : Ref sig .tc := ⟨.hbm, 703, rfl⟩
abbrev main_call8_v32 : Ref sig .tc := ⟨.hbm, 704, rfl⟩
abbrev main_call8_v33 : Ref sig .tc := ⟨.hbm, 705, rfl⟩
abbrev main_call8_cst_10 : Ref sig .tc := ⟨.hbm, 706, rfl⟩
abbrev main_call8_v34 : Ref sig .tc := ⟨.hbm, 707, rfl⟩
abbrev main_call8_cst_11 : Ref sig .tc := ⟨.hbm, 708, rfl⟩
abbrev main_v62_3 : Ref sig .tc := ⟨.hbm, 709, rfl⟩
abbrev main_v63 : Ref sig .tc := ⟨.hbm, 710, rfl⟩
abbrev main_v64 : Ref sig .tc := ⟨.hbm, 711, rfl⟩
abbrev main_v65 : Ref sig .tc := ⟨.hbm, 712, rfl⟩
abbrev main_v66 : Ref sig .tc := ⟨.hbm, 713, rfl⟩
abbrev main_v67 : Ref sig .tc := ⟨.hbm, 714, rfl⟩
abbrev main_v68 : Ref sig .tc := ⟨.hbm, 715, rfl⟩
abbrev main_v69 : Ref sig .tc := ⟨.hbm, 716, rfl⟩
abbrev main_v70 : Ref sig .tc := ⟨.hbm, 717, rfl⟩
abbrev main_v71 : Ref sig .tc := ⟨.hbm, 718, rfl⟩
abbrev main_v72 : Ref sig .tc := ⟨.hbm, 719, rfl⟩
abbrev main_v73 : Ref sig .tc := ⟨.hbm, 720, rfl⟩
abbrev main_v74 : Ref sig .tc := ⟨.hbm, 721, rfl⟩
abbrev main_v75 : Ref sig .tc := ⟨.hbm, 722, rfl⟩
abbrev main_v76 : Ref sig .tc := ⟨.hbm, 723, rfl⟩
abbrev main_v77 : Ref sig .tc := ⟨.hbm, 724, rfl⟩
abbrev main_v78 : Ref sig .tc := ⟨.hbm, 725, rfl⟩
abbrev main_v79 : Ref sig .tc := ⟨.hbm, 726, rfl⟩
abbrev main_v80 : Ref sig .tc := ⟨.hbm, 727, rfl⟩
abbrev main_v81 : Ref sig .tc := ⟨.hbm, 728, rfl⟩
abbrev main_call9_cst : Ref sig .tc := ⟨.hbm, 729, rfl⟩
abbrev main_call9_v0 : Ref sig .tc := ⟨.hbm, 730, rfl⟩
abbrev main_v82 : Ref sig .tc := ⟨.hbm, 731, rfl⟩
abbrev main_v83 : Ref sig .tc := ⟨.hbm, 732, rfl⟩
abbrev main_v84 : Ref sig .tc := ⟨.hbm, 733, rfl⟩
abbrev main_v85 : Ref sig .tc := ⟨.hbm, 734, rfl⟩
abbrev main_v86 : Ref sig .tc := ⟨.hbm, 735, rfl⟩
abbrev main_v87 : Ref sig .tc := ⟨.hbm, 736, rfl⟩

abbrev nD : Nat := 1
abbrev τ : Topo := Topo.v7x

variable {F : FTy → Type} [FloatOps F]
-- ==== Proof.Lines.lean ====
module

public import Idealize.ShloMosaic.Lib.StableHlo.RunHlo
public import Idealize.ShloMosaic.Lib.StableHlo.RunRead

@[expose] public section

/-! Straight lines of host operations in which every buffer is written once, before it is read.

After such a line the final contents satisfy every operation's own equation, so a result is read off the final contents
alone, one equation per operation. -/

namespace Cert.Lines

open Idealize.ShloMosaic Idealize.ShloMosaic.StableHlo Idealize.SL.Sem

variable {τ : Topo} {sig : RefSig} {Val : EltTy → Type}

/-- What an operation reads, and what it writes. -/
abbrev Step (sig : RefSig) := List (Ref sig .tc) × Ref sig .tc

/-- The operation writes the step's reference alone, and what it writes depends on what the step reads alone. -/
structure Fits (op : HloOp τ sig Val) (s : Step sig) : Prop where
  writes : op.writes = {Proc.devRef .tc s.2}
  bufs : op.bufs ⊆ tcRefs τ sig
  fresh : op.fresh = ∅
  local_ : ∀ V W : Valuation τ sig Val, (∀ r ∈ s.1, V (Proc.devRef .tc r) = W (Proc.devRef .tc r)) →
    op.result V (Proc.devRef .tc s.2) = op.result W (Proc.devRef .tc s.2)

/-- Each step writes a reference numbered above every one written before it and above every one it reads. -/
def ordered : Nat → List (Step sig) → Bool
  | _, [] => true
  | n, s :: l => decide (n < s.2.idx.val) && s.1.all (fun r => decide (r.idx.val < s.2.idx.val)) && ordered s.2.idx.val l

/-- The first part of an ordered list is ordered. -/
theorem ordered_append {n : Nat} {l₁ l₂ : List (Step sig)} (h : ordered n (l₁ ++ l₂) = true) : ordered n l₁ = true := by
  induction l₁ generalizing n with
  | nil => rfl
  | cons s l ih =>
    simp only [List.cons_append, ordered, Bool.and_eq_true] at h ⊢
    exact ⟨h.1, ih h.2⟩

/-- A line numbered above `n` keeps what is numbered up to `n`. -/
theorem after_low {ops : List (HloOp τ sig Val)} {l : List (Step sig)} (hf : List.Forall₂ Fits ops l) {n : Nat}
    (ho : ordered n l = true) (V : Valuation τ sig Val) (r : Ref sig .tc) (hr : r.idx.val ≤ n) :
    after ops V (Proc.devRef .tc r) = V (Proc.devRef .tc r) := by
  induction hf generalizing n V with
  | nil => rfl
  | @cons op s ops l h hs ih =>
    simp only [ordered, Bool.and_eq_true, decide_eq_true_eq] at ho
    rw [after_cons, ih ho.2 _ (by omega)]
    refine HloOp.result_of_not_mem _ _ ?_
    rw [h.writes, Finset.mem_singleton]
    refine devRef_ne_of_ne fun e => ?_
    subst e; omega

/-- The contents satisfy the operation's equation: running it again changes nothing. -/
def Settled (W : Valuation τ sig Val) (ops : List (HloOp τ sig Val)) : Prop := ops.Forall fun op => op.result W = W

/-- After an ordered line every operation's equation holds of the final contents. -/
theorem settled {ops : List (HloOp τ sig Val)} {l : List (Step sig)} (hf : List.Forall₂ Fits ops l) {n : Nat}
    (ho : ordered n l = true) (V : Valuation τ sig Val) : Settled (after ops V) ops := by
  induction hf generalizing n V with
  | nil => trivial
  | @cons op s ops l h hs ih =>
    simp only [ordered, Bool.and_eq_true, decide_eq_true_eq, List.all_eq_true] at ho
    refine (List.forall_cons _ _ _).mpr ⟨?_, ih ho.2 _⟩
    rw [after_cons]
    funext b
    by_cases hb : b ∈ op.writes
    · rw [h.writes, Finset.mem_singleton] at hb
      subst hb
      rw [after_low hs ho.2 _ s.2 le_rfl]
      refine h.local_ _ _ fun r hr => ?_
      rw [after_low hs ho.2 _ r (ho.1.2 r hr).le]
      refine HloOp.result_of_not_mem _ _ ?_
      rw [h.writes, Finset.mem_singleton]
      refine devRef_ne_of_ne fun e => ?_
      have := ho.1.2 r hr
      rw [e] at this; omega
    · exact HloOp.result_of_not_mem _ _ hb

/-- What holds of a joined line holds of both parts. -/
theorem Settled.append {W : Valuation τ sig Val} {l₁ l₂ : List (HloOp τ sig Val)} (h : Settled W (l₁ ++ l₂)) :
    Settled W l₁ ∧ Settled W l₂ := by
  simp only [Settled, List.forall_iff_forall_mem, List.mem_append] at h ⊢
  exact ⟨fun x hx => h x (.inl hx), fun x hx => h x (.inr hx)⟩

/-- The first operation of a settled line changes nothing. -/
theorem Settled.head {W : Valuation τ sig Val} {op : HloOp τ sig Val} {l : List (HloOp τ sig Val)} (h : Settled W (op :: l)) :
    op.result W = W := ((List.forall_cons _ _ _).mp h).1

/-- The rest of a settled line is settled. -/
theorem Settled.tail {W : Valuation τ sig Val} {op : HloOp τ sig Val} {l : List (HloOp τ sig Val)} (h : Settled W (op :: l)) :
    Settled W l := ((List.forall_cons _ _ _).mp h).2

/-! ## The operations of a module-local function -/

section Builders

variable {T Ta Tb Tc Te Ty : BufTy} (a : TRef sig Ta) (b : TRef sig Tb) (c : TRef sig Tc) (e : TRef sig Te) (y : TRef sig Ty)

/-- A typed reference's contents. -/
def rd (W : Valuation τ sig Val) (x : TRef sig T) : T.Contents Val := x.ofBuf (W (Proc.devRef .tc x.ref))

/-- Reading back what was stored. -/
theorem ofBuf_of_toBuf {y : TRef sig T} {v : y.ref.ty.Contents Val} {w : T.Contents Val} (h : v = y.toBuf w) : y.ofBuf v = w := by
  rw [h, TRef.ofBuf_toBuf]

/-- A constant reads nothing and writes its result. -/
theorem fits_nullary (v : Ty.Contents Val) : Fits (τ := τ) (TRef.nullary y v) ([], y.ref) :=
  ⟨rfl, nullary_bufs_sub _ _ _, rfl, fun V W _ => by rw [nullary_result, nullary_result]⟩

/-- An operation of one operand reads it and writes its result. -/
theorem fits_unary (f : Ta.Contents Val → Ty.Contents Val) : Fits (τ := τ) (TRef.unary a y f) ([a.ref], y.ref) :=
  ⟨rfl, unary_bufs_sub _ _ _ _ _, rfl, fun V W h => by
    rw [unary_result, unary_result, h _ (by simp)]⟩

/-- An operation of two operands reads both and writes its result. -/
theorem fits_binary (f : Ta.Contents Val → Tb.Contents Val → Ty.Contents Val) :
    Fits (τ := τ) (TRef.binary a b y f) ([a.ref, b.ref], y.ref) :=
  ⟨rfl, binary_bufs_sub _ _ _ _ _ _ _, rfl, fun V W h => by
    rw [binary_result, binary_result, h a.ref (by simp), h b.ref (by simp)]⟩

/-- An operation of three operands reads them and writes its result. -/
theorem fits_ternary (f : Tc.Contents Val → Ta.Contents Val → Tb.Contents Val → Ty.Contents Val) :
    Fits (τ := τ) (TRef.ternary c a b y f) ([c.ref, a.ref, b.ref], y.ref) :=
  ⟨rfl, ternary_bufs_sub _ _ _ _ _ _ _ _ _, rfl, fun V W h => by
    rw [ternary_result, ternary_result, h c.ref (by simp), h a.ref (by simp), h b.ref (by simp)]⟩

/-- An operation of four operands reads them and writes its result. -/
theorem fits_quaternary (f : Ta.Contents Val → Tb.Contents Val → Tc.Contents Val → Te.Contents Val → Ty.Contents Val) :
    Fits (τ := τ) (TRef.quaternary a b c e y f) ([a.ref, b.ref, c.ref, e.ref], y.ref) :=
  ⟨rfl, quaternary_bufs_sub _ _ _ _ _ _ _ _ _ _ _, rfl, fun V W h => by
    rw [quaternary_result, quaternary_result, h a.ref (by simp), h b.ref (by simp), h c.ref (by simp), h e.ref (by simp)]⟩

/-- A reshape reads its operand and writes its result. -/
theorem fits_reshape (x y : Ref sig .tc) (he : x.ty.elt = y.ty.elt) (hn : x.ty.shape.ShapeCasts y.ty.shape) (hx hy) :
    Fits (τ := τ) (Val := Val) (StableHlo.reshape x y he hn hx hy) ([x], y) :=
  ⟨rfl, reshape_bufs_sub _ _ _ _ _ _, rfl, fun V W h => by
    rw [reshape_result, reshape_result, h x (by simp)]⟩

variable {W : Valuation τ sig Val}
variable {a b c e y}

/-- Where a constant changes nothing, its result already holds it. -/
theorem rd_nullary {v : Ty.Contents Val} (h : (TRef.nullary y v).result W = W) : rd W y = v :=
  ofBuf_of_toBuf ((congrFun h _).symm.trans (nullary_result _ _ _ _))

/-- Where an operation of one operand changes nothing, its equation holds. -/
theorem rd_unary {f : Ta.Contents Val → Ty.Contents Val} (h : (TRef.unary a y f).result W = W) : rd W y = f (rd W a) :=
  ofBuf_of_toBuf ((congrFun h _).symm.trans (unary_result _ _ _ _ _ _))

/-- Where an operation of two operands changes nothing, its equation holds. -/
theorem rd_binary {f : Ta.Contents Val → Tb.Contents Val → Ty.Contents Val} (h : (TRef.binary a b y f).result W = W) :
    rd W y = f (rd W a) (rd W b) :=
  ofBuf_of_toBuf ((congrFun h _).symm.trans (binary_result _ _ _ _ _ _ _ _))

/-- Where an operation of three operands changes nothing, its equation holds. -/
theorem rd_ternary {f : Tc.Contents Val → Ta.Contents Val → Tb.Contents Val → Ty.Contents Val}
    (h : (TRef.ternary c a b y f).result W = W) : rd W y = f (rd W c) (rd W a) (rd W b) :=
  ofBuf_of_toBuf ((congrFun h _).symm.trans (ternary_result _ _ _ _ _ _ _ _ _ _))

/-- Where an operation of four operands changes nothing, its equation holds. -/
theorem rd_quaternary {f : Ta.Contents Val → Tb.Contents Val → Tc.Contents Val → Te.Contents Val → Ty.Contents Val}
    (h : (TRef.quaternary a b c e y f).result W = W) : rd W y = f (rd W a) (rd W b) (rd W c) (rd W e) :=
  ofBuf_of_toBuf ((congrFun h _).symm.trans (quaternary_result _ _ _ _ _ _ _ _ _ _ _ _))

/-- Where a reshape changes nothing, its equation holds. -/
theorem rd_reshape {a : TRef sig Ta} {y : TRef sig Ty} {he : Ta.elt = Ty.elt} {hn : Ta.shape.ShapeCasts Ty.shape}
    (h : (TRef.reshape a y he hn).result W = W) : rd W y = fun i => he ▸ shapeCast Ty.shape (rd W a) hn i := by
  obtain ⟨x, rfl, hx, hx'⟩ := a
  obtain ⟨y, rfl, hy, hy'⟩ := y
  exact (congrFun h _).symm.trans (reshape_result _ _ _ _ _ _ _)

end Builders

/-! ## An operation with its step and its equation -/

/-- A host operation, what it reads and writes, and the equation it leaves between the contents. -/
structure Op (τ : Topo) (sig : RefSig) (Val : EltTy → Type) where
  op : HloOp τ sig Val
  step : Step sig
  fits : Fits op step
  eqn : Valuation τ sig Val → Prop
  holds : ∀ W, op.result W = W → eqn W

namespace Op

variable {T Ta Tb Tc Te Ty : BufTy}

/-- A constant. -/
abbrev nul (y : TRef sig Ty) (v : Ty.Contents Val) : Op τ sig Val :=
  ⟨TRef.nullary y v, _, fits_nullary y v, fun W => rd W y = v, fun _ => rd_nullary⟩

/-- An operation of one operand. -/
abbrev un (a : TRef sig Ta) (y : TRef sig Ty) (f : Ta.Contents Val → Ty.Contents Val) : Op τ sig Val :=
  ⟨TRef.unary a y f, _, fits_unary a y f, fun W => rd W y = f (rd W a), fun _ => rd_unary⟩

/-- An operation of two operands. -/
abbrev bin (a : TRef sig Ta) (b : TRef sig Tb) (y : TRef sig Ty) (f : Ta.Contents Val → Tb.Contents Val → Ty.Contents Val) :
    Op τ sig Val :=
  ⟨TRef.binary a b y f, _, fits_binary a b y f, fun W => rd W y = f (rd W a) (rd W b), fun _ => rd_binary⟩

/-- An operation of three operands. -/
abbrev tern (c : TRef sig Tc) (a : TRef sig Ta) (b : TRef sig Tb) (y : TRef sig Ty)
    (f : Tc.Contents Val → Ta.Contents Val → Tb.Contents Val → Ty.Contents Val) : Op τ sig Val :=
  ⟨TRef.ternary c a b y f, _, fits_ternary a b c y f, fun W => rd W y = f (rd W c) (rd W a) (rd W b), fun _ => rd_ternary⟩

/-- An operation of four operands. -/
abbrev quat (a : TRef sig Ta) (b : TRef sig Tb) (c : TRef sig Tc) (e : TRef sig Te) (y : TRef sig Ty)
    (f : Ta.Contents Val → Tb.Contents Val → Tc.Contents Val → Te.Contents Val → Ty.Contents Val) : Op τ sig Val :=
  ⟨TRef.quaternary a b c e y f, _, fits_quaternary a b c e y f, fun W => rd W y = f (rd W a) (rd W b) (rd W c) (rd W e),
    fun _ => rd_quaternary⟩

/-- A reshape. -/
abbrev resh (a : TRef sig Ta) (y : TRef sig Ty) (he : Ta.elt = Ty.elt) (hn : Ta.shape.ShapeCasts Ty.shape) : Op τ sig Val :=
  ⟨TRef.reshape a y he hn, _, fits_reshape _ _ _ _ _ _, fun W => rd W y = fun i => he ▸ shapeCast Ty.shape (rd W a) hn i,
    fun _ => rd_reshape⟩

/-- An operation of any number of operands. -/
abbrev nary {n : Nat} (xs : Fin n → Ref sig .tc) (y : Ref sig .tc)
    (f : ((k : Fin n) → (xs k).ty.Contents Val) → y.ty.Contents Val)
    (hxs : ∀ k, (xs k).space ≠ .host ∧ (xs k).isScoped = false)
    (hy : y.space ≠ .host ∧ y.isScoped = false) : Op τ sig Val :=
  ⟨StableHlo.nary xs y f hxs hy, (List.ofFn xs, y),
    ⟨rfl, nary_bufs_sub _ _ _ _ _, rfl, fun V W h => by
      rw [nary_result, nary_result]
      exact congrArg f (funext fun k => h (xs k) (List.mem_ofFn.mpr ⟨k, rfl⟩))⟩,
    fun W => W (Proc.devRef .tc y) = f fun k => W (Proc.devRef .tc (xs k)),
    fun W h => (congrFun h _).symm.trans (nary_result _ _ _ _ _ _)⟩

end Op

/-- The operations of a line. -/
abbrev hlos (l : List (Op τ sig Val)) : List (HloOp τ sig Val) := l.map Op.op

/-- The equations of a line, as one conjunction. -/
def lineEqs (W : Valuation τ sig Val) : List (Op τ sig Val) → Prop
  | [] => True
  | o :: l => o.eqn W ∧ lineEqs W l

/-- A joined line's equations are those of its parts. -/
theorem lineEqs_append {W : Valuation τ sig Val} {l₁ l₂ : List (Op τ sig Val)} :
    lineEqs W (l₁ ++ l₂) ↔ lineEqs W l₁ ∧ lineEqs W l₂ := by
  induction l₁ with
  | nil => simp [lineEqs]
  | cons o l ih => simp only [List.cons_append, lineEqs, ih, and_assoc]

/-- Every operation of a line reads and writes what its step says. -/
theorem fits_all (l : List (Op τ sig Val)) : List.Forall₂ Fits (hlos l) (l.map Op.step) := by
  induction l with
  | nil => exact .nil
  | cons o l ih => exact .cons o.fits ih

/-- The final contents of an ordered line satisfy its equations. -/
theorem lineEqs_after {l : List (Op τ sig Val)} {n : Nat} (ho : ordered n (l.map Op.step) = true) (V : Valuation τ sig Val) :
    lineEqs (after (hlos l) V) l := by
  have h := settled (fits_all l) ho V
  generalize after (hlos l) V = W at h ⊢
  clear ho
  induction l with
  | nil => trivial
  | cons o l ih => exact ⟨o.holds W h.head, ih h.tail⟩

/-- An ordered line keeps what is numbered below it. -/
theorem keeps_low {l : List (Op τ sig Val)} {n : Nat} (ho : ordered n (l.map Op.step) = true) (V : Valuation τ sig Val)
    (r : Ref sig .tc) (hr : r.idx.val ≤ n) : after (hlos l) V (Proc.devRef .tc r) = V (Proc.devRef .tc r) :=
  after_low (fits_all l) ho V r hr

/-- A line touches no buffer but the core's own. -/
theorem bufs_all (l : List (Op τ sig Val)) : (hlos l).Forall fun op => op.bufs ⊆ tcRefs τ sig :=
  List.forall_iff_forall_mem.mpr fun o ho => by
    obtain ⟨p, -, rfl⟩ := List.mem_map.mp ho
    exact p.fits.bufs

/-- A line allocates nothing. -/
theorem fresh_all (l : List (Op τ sig Val)) : ∀ op ∈ hlos l, op.fresh = ∅ := fun o ho => by
  obtain ⟨p, -, rfl⟩ := List.mem_map.mp ho
  exact p.fits.fresh

/-! ## Programs that are lines -/

section Programs

variable {nD : Nat} {Λ : Labels}

/-- The program runs the line and returns. -/
def IsLine (p : Prog (TpuEff nD τ sig Val Λ .tc) PUnit) (l : List (Op τ sig Val)) : Prop := p = seq (hlos l)

/-- Returning at once is the empty line. -/
theorem IsLine.nil : IsLine (nD := nD) (Λ := Λ) (pure ⟨⟩) ([] : List (Op τ sig Val)) := rfl

/-- An operation followed by a line is a line. -/
theorem IsLine.cons {op : HloOp τ sig Val} {o : Op τ sig Val} (e : op = o.op) {k : Prog (TpuEff nD τ sig Val Λ .tc) PUnit} {l : List (Op τ sig Val)} (h : IsLine k l) :
    IsLine ((hlo rfl op fun _ => .ret (⟨⟩ : PUnit)) >>= fun _ => k) (o :: l) := by
  unfold IsLine at h ⊢
  rw [h, e]; rfl

/-- A line followed by a line is the joined line. -/
theorem IsLine.append {p k : Prog (TpuEff nD τ sig Val Λ .tc) PUnit} {l₁ l₂ : List (Op τ sig Val)} (hp : IsLine p l₁)
    (hk : IsLine k l₂) : IsLine (p >>= fun _ => k) (l₁ ++ l₂) := by
  unfold IsLine at hp hk ⊢
  rw [hp, hk, show hlos (l₁ ++ l₂) = hlos l₁ ++ hlos l₂ from List.map_append, seq_append]

end Programs

end Cert.Lines
-- ==== Proof.RefLine.lean ====
module

public import proofs.«01_k».proof.ReferenceIdeal
public import proofs.«01_k».proof.Proof.Gen.ReferenceIdeal
public import proofs.«01_k».proof.Proof.Lines
public import Idealize.ShloMosaic.PureOps.Ideal

@[expose] public section

/-! The reference program as a line of operations: each function's operations over its buffers, and what the values of a
quantisation level are as functions of the level's residual and codebook. -/

set_option maxRecDepth 16384

noncomputable section

namespace Cert.Ref

open Idealize.ShloMosaic Idealize.ShloMosaic.StableHlo Idealize.SL.Sem
open Cert.ReferenceIdeal Cert.ReferenceIdeal.Facts₀ Cert.ReferenceIdeal.Facts Cert.Lines

variable {F : FTy → Type} [FloatOps F]

/-- A buffer of floats. -/
abbrev FRef (S : Shape) := TRef sig ⟨S, .f32⟩

/-! ## The functions' operations -/

/-- The larger of the entry and zero. -/
def reluOps (arg0 : FRef S1024x1024) (φ : fn_relu.Bufs) : List (Op τ sig (Elt F)) :=
  [.nul φ.cst (constant S_ .f32 0x00000000#32),
   .un φ.cst φ.v0 (broadcastInDim S1024x1024 ![] bcast_S_S1024x1024),
   .bin arg0 φ.v0 φ.v1 maximumf]

/-- The position of the least entry of each row. -/
def argminOps (arg0 : FRef S1024x1024) (φ : fn_argmin.Bufs) : List (Op τ sig (Elt F)) :=
  [.nul φ.v0 (iotaInDim S1024x1024 32 1),
   .nul φ.cst (constant S_ .f32 0x7F800000#32),
   .nul φ.c (constantI S_ 32 0#32),
   .quat arg0 φ.v0 φ.cst φ.c φ.v1_0 (fun x y u v j => (Host.argReduce reducer_argmin_f32_i32 x y u v reducesTo_S1024x1024_S1024_d1 h_S_ j).1),
   .quat arg0 φ.v0 φ.cst φ.c φ.v1_1 (fun x y u v j => (Host.argReduce reducer_argmin_f32_i32 x y u v reducesTo_S1024x1024_S1024_d1 h_S_ j).2)]

/-- A choice by a mask. -/
def whereOps (arg0 : TRef sig ⟨S1024, .i1⟩) (arg1 arg2 : TRef sig ⟨S1024, .i32⟩) (φ : fn_where.Bufs) : List (Op τ sig (Elt F)) :=
  [.tern arg0 arg1 arg2 φ.v0 select]

/-- The rows at given positions: the index wrapped, its range tested, the row gathered. -/
def takeOps (arg0 : FRef S1024x256) (arg1 : TRef sig ⟨S1024, .i32⟩) (φ : fn_take.Bufs) : List (Op τ sig (Elt F)) :=
  [.nul φ.c (constantI S_ 32 0#32),
   .un φ.c φ.v0 (broadcastInDim S1024 ![] bcast_S_S1024),
   .bin arg1 φ.v0 φ.v1 (cmpi .slt),
   .nul φ.c_0 (constantI S_ 32 1024#32),
   .un φ.c_0 φ.v2 (broadcastInDim S1024 ![] bcast_S_S1024),
   .bin arg1 φ.v2 φ.v3 addi] ++ (whereOps φ.v1 φ.v3 arg1 φ.call0 ++
  [.un φ.call0.v0 φ.v5 (broadcastInDim S1024x1 ![0] bcast_S1024_S1024x1_0),
   .nul φ.c_1 (constantI S1 32 1023#32),
   .nul φ.c_2 (constantI S_ 32 0#32),
   .un φ.c_2 φ.v6 (broadcastInDim S1024x1 ![] bcast_S_S1024x1),
   .bin φ.v5 φ.v6 φ.v7 (cmpi .sge),
   .un φ.c_1 φ.v8 (broadcastInDim S1x1 ![1] bcast_S1_S1x1_1),
   .un φ.v8 φ.v9 (broadcastInDim S1024x1 ![0, 1] bcast_S1x1_S1024x1_0_1),
   .bin φ.v5 φ.v9 φ.v10 (cmpi .sle),
   .bin φ.v7 φ.v10 φ.v11 andi,
   .nul φ.c_3 (constantI S_ 1 1#1),
   .bin φ.v11 φ.c_3 φ.v12 (fun x v => Host.reduce IntOp.andi x v reducesTo_S1024x1_S1024_d1 h_S_),
   .bin arg0 φ.v5 φ.v13 (fun x i => Host.gather gather_S1024x256_S1024x1_S1024x256_1_0_n_n_0_1_1256 x i),
   .un φ.v12 φ.v14 (broadcastInDim S1024x256 ![0] bcast_S1024_S1024x256_0),
   .nul φ.cst (constant S_ .f32 0x7FC00000#32),
   .un φ.cst φ.v15 (broadcastInDim S1024x256 ![] bcast_S_S1024x256),
   .tern φ.v14 φ.v13 φ.v15 φ.v16 select])

/-- The one-hot matrix of positions. -/
def oneHotOps (arg0 : TRef sig ⟨S1024, .i32⟩) (φ : fn_one_hot.Bufs) : List (Op τ sig (Elt F)) :=
  [.un arg0 φ.v0 (broadcastInDim S1024x1 ![0] bcast_S1024_S1024x1_0),
   .nul φ.v1 (iotaInDim S1x1024 32 1),
   .un φ.v0 φ.v2 (broadcastInDim S1024x1024 ![0, 1] bcast_S1024x1_S1024x1024_0_1),
   .un φ.v1 φ.v3 (broadcastInDim S1024x1024 ![0, 1] bcast_S1x1024_S1024x1024_0_1),
   .bin φ.v2 φ.v3 φ.v4 (cmpi .eq),
   .un φ.v4 φ.v5 (uitofp .f32)]

/-- A level's squared distances. -/
def distOps (arg0 arg1 : FRef S1024x256) (φ : fn_vq_level.Bufs) : List (Op τ sig (Elt F)) :=
  [.bin arg0 arg0 φ.v0 mulf,
   .nul φ.cst (constant S_ .f32 0x00000000#32),
   .bin φ.v0 φ.cst φ.v1 (fun x v => Host.reduceAdd x v reducesTo_S1024x256_S1024_d1 h_S_),
   .un φ.v1 φ.v2 (broadcastInDim S1024x1 ![0] bcast_S1024_S1024x1_0),
   .nul φ.cst_0 (constant S_ .f32 0x40000000#32),
   .un φ.cst_0 φ.v3 (broadcastInDim S1024x256 ![] bcast_S_S1024x256),
   .bin φ.v3 arg0 φ.v4 mulf,
   .un arg1 φ.v5 (transpose S256x1024 [1, 0] · transposes_S1024x256_S256x1024_1_0),
   .bin φ.v4 φ.v5 φ.v6 (fun l r => Host.dotGeneral dot_S1024x256_S256x1024_S1024x1024_1_0_0_1_n_n none l r),
   .un φ.v2 φ.v7 (broadcastInDim S1024x1024 ![0, 1] bcast_S1024x1_S1024x1024_0_1),
   .bin φ.v7 φ.v6 φ.v8 subf,
   .bin arg1 arg1 φ.v9 mulf,
   .nul φ.cst_1 (constant S_ .f32 0x00000000#32),
   .bin φ.v9 φ.cst_1 φ.v10 (fun x v => Host.reduceAdd x v reducesTo_S1024x256_S1024_d1 h_S_),
   .un φ.v10 φ.v11 (broadcastInDim S1x1024 ![1] bcast_S1024_S1x1024_1),
   .un φ.v11 φ.v12 (broadcastInDim S1024x1024 ![0, 1] bcast_S1x1024_S1024x1024_0_1),
   .bin φ.v8 φ.v12 φ.v13 addf]

/-- A level's quantisation loss. -/
def lossOps (arg0 : FRef S1024x256) (φ : fn_vq_level.Bufs) : List (Op τ sig (Elt F)) :=
  [.bin arg0 φ.call1.v16 φ.v16 subf,
   .bin φ.v16 φ.v16 φ.v17 mulf,
   .nul φ.cst_2 (constant S_ .f32 0x00000000#32),
   .bin φ.v17 φ.cst_2 φ.v18 (fun x v => Host.reduceAdd x v reducesTo_S1024x256_S_d0_1 h_S_),
   .nul φ.cst_3 (constant S_ .f32 0x48800000#32),
   .bin φ.v18 φ.cst_3 φ.v19 Host.divf,
   .nul φ.cst_4 (constant S_ .f32 0x3E800000#32),
   .bin φ.cst_4 φ.v19 φ.v20 mulf,
   .bin arg0 φ.call1.v16 φ.v21 subf,
   .bin φ.v21 φ.v21 φ.v22 mulf,
   .nul φ.cst_5 (constant S_ .f32 0x00000000#32),
   .bin φ.v22 φ.cst_5 φ.v23 (fun x v => Host.reduceAdd x v reducesTo_S1024x256_S_d0_1 h_S_),
   .nul φ.cst_6 (constant S_ .f32 0x48800000#32),
   .bin φ.v23 φ.cst_6 φ.v24 Host.divf,
   .bin φ.v20 φ.v24 φ.v25 addf]

/-- A level's usage term. -/
def usageOps (φ : fn_vq_level.Bufs) : List (Op τ sig (Elt F)) :=
  [.nul φ.cst_7 (constant S_ .f32 0x00000000#32),
   .bin φ.call2.v5 φ.cst_7 φ.v27 (fun x v => Host.reduceAdd x v reducesTo_S1024x1024_S1024_d0 h_S_),
   .nul φ.cst_8 (constant S_ .f32 0x44800000#32),
   .un φ.cst_8 φ.v28 (broadcastInDim S1024 ![] bcast_S_S1024),
   .bin φ.v27 φ.v28 φ.v29 Host.divf,
   .nul φ.cst_9 (constant S_ .f32 0x2EDBE6FF#32),
   .un φ.cst_9 φ.v30 (broadcastInDim S1024 ![] bcast_S_S1024),
   .bin φ.v29 φ.v30 φ.v31 addf,
   .un φ.v31 φ.v32 Host.log,
   .bin φ.v29 φ.v32 φ.v33 mulf,
   .nul φ.cst_10 (constant S_ .f32 0x00000000#32),
   .bin φ.v33 φ.cst_10 φ.v34 (fun x v => Host.reduceAdd x v reducesTo_S1024_S_d0 h_S_),
   .nul φ.cst_11 (constant S_ .f32 0x3A83126F#32),
   .bin φ.cst_11 φ.v34 φ.v35 mulf]

/-- A level of the quantiser. -/
def levelOps (arg0 arg1 : FRef S1024x256) (φ : fn_vq_level.Bufs) : List (Op τ sig (Elt F)) :=
  distOps arg0 arg1 φ ++ (argminOps φ.v13 φ.call0 ++ (takeOps arg1 φ.call0.v1_1 φ.call1 ++
    (lossOps arg0 φ ++ (oneHotOps φ.call0.v1_1 φ.call2 ++ usageOps φ))))

/-! ## The printed functions are these lines -/

/-- That function is its line. -/
theorem relu_line (a : FRef S1024x1024) (φ : fn_relu.Bufs) : IsLine (fn_relu.body (F := F) a φ) (reluOps a φ) := by
  unfold fn_relu.body reluOps
  iterate 3 refine .cons (by rfl) ?_
  exact .nil

/-- The search for the least entry is its line. -/
theorem argmin_line (a : FRef S1024x1024) (φ : fn_argmin.Bufs) : IsLine (fn_argmin.body (F := F) a φ) (argminOps a φ) := by
  unfold fn_argmin.body argminOps
  iterate 5 refine .cons (by rfl) ?_
  exact .nil

/-- The choice is its line. -/
theorem where_line (a : TRef sig ⟨S1024, .i1⟩) (b c : TRef sig ⟨S1024, .i32⟩) (φ : fn_where.Bufs) :
    IsLine (fn_where.body (F := F) a b c φ) (whereOps a b c φ) := by
  unfold fn_where.body whereOps
  iterate 1 refine .cons (by rfl) ?_
  exact .nil

/-- The take is its line. -/
theorem take_line (a : FRef S1024x256) (b : TRef sig ⟨S1024, .i32⟩) (φ : fn_take.Bufs) :
    IsLine (fn_take.body (F := F) a b φ) (takeOps a b φ) := by
  unfold fn_take.body takeOps
  simp only [List.cons_append, List.nil_append]
  iterate 6 refine .cons (by rfl) ?_
  refine .append (where_line _ _ _ _) ?_
  iterate 16 refine .cons (by rfl) ?_
  exact .nil

/-- The one-hot matrix is its line. -/
theorem oneHot_line (a : TRef sig ⟨S1024, .i32⟩) (φ : fn_one_hot.Bufs) :
    IsLine (fn_one_hot.body (F := F) a φ) (oneHotOps a φ) := by
  unfold fn_one_hot.body oneHotOps
  iterate 6 refine .cons (by rfl) ?_
  exact .nil

/-- A level is its line. -/
theorem level_line (a b : FRef S1024x256) (φ : fn_vq_level.Bufs) :
    IsLine (fn_vq_level.body (F := F) a b φ) (levelOps a b φ) := by
  unfold fn_vq_level.body levelOps distOps lossOps usageOps
  simp only [List.cons_append, List.nil_append]
  iterate 17 refine .cons (by rfl) ?_
  refine .append (argmin_line _ _) ?_
  refine .append (take_line _ _ _) ?_
  iterate 15 refine .cons (by rfl) ?_
  refine .append (oneHot_line _ _) ?_
  iterate 14 refine .cons (by rfl) ?_
  exact .nil

end Cert.Ref
-- ==== Proof.RefMain.lean ====
module

public import proofs.«01_k».proof.Proof.RefLine
public import Idealize.ShloMosaic.PureOps.Ideal
public import Idealize.ShloMosaic.Lib.Quiescent

@[expose] public section

/-! The reference's whole program as one line of operations, and that each of its buffers is written once, before it is read. -/

set_option maxRecDepth 16384

noncomputable section

namespace Cert.Ref

open Idealize.ShloMosaic Idealize.ShloMosaic.StableHlo Idealize.SL.Sem
open Cert.ReferenceIdeal Cert.ReferenceIdeal.Facts₀ Cert.ReferenceIdeal.Facts Cert.Lines

variable {F : FTy → Type} [FloatOps F]

/-- Each codebook lies inside the stack of them. -/
theorem slices (l : Fin 8) : S8x1024x256.Slices ![l.val, 0, 0] S1x1024x256 := by revert l; decide

/-- The encoder. -/
def encOps : List (Op τ sig (Elt F)) :=
  [.resh (.of main_arg0) (.of main_v0) (rfl : (.f32 : EltTy) = .f32) shapeCasts_S1024x32x256_S1024x8192,
   .bin (.of main_v0) (.of main_arg1) (.of main_v1) ((fun l r => Host.dotGeneral dot_S1024x8192_S8192x1024_S1024x1024_1_0_0_1_n_n none l r) : (⟨S1024x8192, .f32⟩ : BufTy).Contents (Elt F) → (⟨S8192x1024, .f32⟩ : BufTy).Contents (Elt F) → (⟨S1024x1024, .f32⟩ : BufTy).Contents (Elt F)),
   .un (.of main_arg2) (.of main_v2) (broadcastInDim S1x1024 ![1] bcast_S1024_S1x1024_1 : (⟨S1024, .f32⟩ : BufTy).Contents (Elt F) → (⟨S1x1024, .f32⟩ : BufTy).Contents (Elt F)),
   .un (.of main_v2) (.of main_v3) (broadcastInDim S1024x1024 ![0, 1] bcast_S1x1024_S1024x1024_0_1 : (⟨S1x1024, .f32⟩ : BufTy).Contents (Elt F) → (⟨S1024x1024, .f32⟩ : BufTy).Contents (Elt F)),
   .bin (.of main_v1) (.of main_v3) (.of main_v4) (addf : (⟨S1024x1024, .f32⟩ : BufTy).Contents (Elt F) → (⟨S1024x1024, .f32⟩ : BufTy).Contents (Elt F) → (⟨S1024x1024, .f32⟩ : BufTy).Contents (Elt F))] ++ (reluOps (.of main_v4) main_call0 ++
  [.bin (.of main_v5) (.of main_arg3) (.of main_v6) ((fun l r => Host.dotGeneral dot_S1024x1024_S1024x256_S1024x256_1_0_0_1_n_n none l r) : (⟨S1024x1024, .f32⟩ : BufTy).Contents (Elt F) → (⟨S1024x256, .f32⟩ : BufTy).Contents (Elt F) → (⟨S1024x256, .f32⟩ : BufTy).Contents (Elt F)),
   .un (.of main_arg4) (.of main_v7) (broadcastInDim S1x256 ![1] bcast_S256_S1x256_1 : (⟨S256, .f32⟩ : BufTy).Contents (Elt F) → (⟨S1x256, .f32⟩ : BufTy).Contents (Elt F)),
   .un (.of main_v7) (.of main_v8) (broadcastInDim S1024x256 ![0, 1] bcast_S1x256_S1024x256_0_1 : (⟨S1x256, .f32⟩ : BufTy).Contents (Elt F) → (⟨S1024x256, .f32⟩ : BufTy).Contents (Elt F)),
   .bin (.of main_v6) (.of main_v8) (.of main_v9) (addf : (⟨S1024x256, .f32⟩ : BufTy).Contents (Elt F) → (⟨S1024x256, .f32⟩ : BufTy).Contents (Elt F) → (⟨S1024x256, .f32⟩ : BufTy).Contents (Elt F)),
   .nul (.of main_cst) (constant S_ .f32 0x00000000#32),
   .un (.of main_cst) (.of main_v10) (broadcastInDim S1024x256 ![] bcast_S_S1024x256 : (⟨S_, .f32⟩ : BufTy).Contents (Elt F) → (⟨S1024x256, .f32⟩ : BufTy).Contents (Elt F))])

/-- A level's codebook, its values, and the losses so far with its own added. -/
def headOps (l : Fin 8) (s : FRef S1x1024x256) (c res : FRef S1024x256) (φ : fn_vq_level.Bufs) (ql ql' : FRef S_) :
    List (Op τ sig (Elt F)) :=
  [.un (.of main_arg9 : FRef S8x1024x256) s (extractStridedSlice S1x1024x256 ![l.val, 0, 0] · (slices l)),
   .resh s c rfl shapeCasts_S1x1024x256_S1024x256] ++ (levelOps res c φ ++ [.bin ql φ.v25 ql' addf])

/-- The rest of a level: its usage term and its rows added, and the residual less its rows. -/
def tailOps (res zq zq' res' : FRef S1024x256) (us us' : FRef S_) (φ : fn_vq_level.Bufs) : List (Op τ sig (Elt F)) :=
  [.bin us φ.v35 us' addf, .bin zq φ.call1.v16 zq' addf, .bin res φ.call1.v16 res' subf]

/-- The first level, which starts the sums. -/
def firstOps : List (Op τ sig (Elt F)) :=
  [.un (.of main_arg9 : FRef S8x1024x256) (.of main_v11 : FRef S1x1024x256) (extractStridedSlice S1x1024x256 ![(0 : Fin 8).val, 0, 0] · (slices 0)),
   .resh (.of main_v11 : FRef S1x1024x256) (.of main_v12 : FRef S1024x256) rfl shapeCasts_S1x1024x256_S1024x256] ++
  (levelOps (.of main_v9) (.of main_v12) main_call1 ++
  [.nul (.of main_cst_0 : FRef S_) (constant S_ .f32 0x00000000#32),
   .bin (.of main_cst_0 : FRef S_) (.of main_v13_2 : FRef S_) (.of main_v14 : FRef S_) addf,
   .nul (.of main_cst_1 : FRef S_) (constant S_ .f32 0x00000000#32),
   .bin (.of main_cst_1 : FRef S_) (.of main_v13_3 : FRef S_) (.of main_v15 : FRef S_) addf,
   .bin (.of main_v10 : FRef S1024x256) (.of main_v13_0 : FRef S1024x256) (.of main_v16 : FRef S1024x256) addf,
   .bin (.of main_v9 : FRef S1024x256) (.of main_v13_0 : FRef S1024x256) (.of main_v17 : FRef S1024x256) subf])

/-- The codes' columns side by side. -/
def codeOps : List (Op τ sig (Elt F)) :=
  [.un (.of main_v13_1) (.of main_v67) (broadcastInDim S1024x1 ![0] bcast_S1024_S1024x1_0 : (⟨S1024, .i32⟩ : BufTy).Contents (Elt F) → (⟨S1024x1, .i32⟩ : BufTy).Contents (Elt F)),
   .un (.of main_v20_1) (.of main_v68) (broadcastInDim S1024x1 ![0] bcast_S1024_S1024x1_0 : (⟨S1024, .i32⟩ : BufTy).Contents (Elt F) → (⟨S1024x1, .i32⟩ : BufTy).Contents (Elt F)),
   .un (.of main_v27_1) (.of main_v69) (broadcastInDim S1024x1 ![0] bcast_S1024_S1024x1_0 : (⟨S1024, .i32⟩ : BufTy).Contents (Elt F) → (⟨S1024x1, .i32⟩ : BufTy).Contents (Elt F)),
   .un (.of main_v34_1) (.of main_v70) (broadcastInDim S1024x1 ![0] bcast_S1024_S1024x1_0 : (⟨S1024, .i32⟩ : BufTy).Contents (Elt F) → (⟨S1024x1, .i32⟩ : BufTy).Contents (Elt F)),
   .un (.of main_v41_1) (.of main_v71) (broadcastInDim S1024x1 ![0] bcast_S1024_S1024x1_0 : (⟨S1024, .i32⟩ : BufTy).Contents (Elt F) → (⟨S1024x1, .i32⟩ : BufTy).Contents (Elt F)),
   .un (.of main_v48_1) (.of main_v72) (broadcastInDim S1024x1 ![0] bcast_S1024_S1024x1_0 : (⟨S1024, .i32⟩ : BufTy).Contents (Elt F) → (⟨S1024x1, .i32⟩ : BufTy).Contents (Elt F)),
   .un (.of main_v55_1) (.of main_v73) (broadcastInDim S1024x1 ![0] bcast_S1024_S1024x1_0 : (⟨S1024, .i32⟩ : BufTy).Contents (Elt F) → (⟨S1024x1, .i32⟩ : BufTy).Contents (Elt F)),
   .un (.of main_v62_1) (.of main_v74) (broadcastInDim S1024x1 ![0] bcast_S1024_S1024x1_0 : (⟨S1024, .i32⟩ : BufTy).Contents (Elt F) → (⟨S1024x1, .i32⟩ : BufTy).Contents (Elt F)),
   .nary ![main_v67, main_v68, main_v69, main_v70, main_v71, main_v72, main_v73, main_v74] main_v75 (fun u => (concatenate S1024x8 1 [⟨S1024x1, (u 0 : (⟨S1024x1, .i32⟩ : BufTy).Contents (Elt F))⟩, ⟨S1024x1, (u 1 : (⟨S1024x1, .i32⟩ : BufTy).Contents (Elt F))⟩, ⟨S1024x1, (u 2 : (⟨S1024x1, .i32⟩ : BufTy).Contents (Elt F))⟩, ⟨S1024x1, (u 3 : (⟨S1024x1, .i32⟩ : BufTy).Contents (Elt F))⟩, ⟨S1024x1, (u 4 : (⟨S1024x1, .i32⟩ : BufTy).Contents (Elt F))⟩, ⟨S1024x1, (u 5 : (⟨S1024x1, .i32⟩ : BufTy).Contents (Elt F))⟩, ⟨S1024x1, (u 6 : (⟨S1024x1, .i32⟩ : BufTy).Contents (Elt F))⟩, ⟨S1024x1, (u 7 : (⟨S1024x1, .i32⟩ : BufTy).Contents (Elt F))⟩] concatenates_S1024x1_S1024x1_S1024x1_S1024x1_S1024x1_S1024x1_S1024x1_S1024x1_S1024x8_d1 : (⟨S1024x8, .i32⟩ : BufTy).Contents (Elt F))) (by decide) (by decide)]

/-- The quantised rows, and the decoder. -/
def decOps : List (Op τ sig (Elt F)) :=
  [.bin (.of main_v65) (.of main_v9) (.of main_v76) (subf : (⟨S1024x256, .f32⟩ : BufTy).Contents (Elt F) → (⟨S1024x256, .f32⟩ : BufTy).Contents (Elt F) → (⟨S1024x256, .f32⟩ : BufTy).Contents (Elt F)),
   .bin (.of main_v9) (.of main_v76) (.of main_v77) (addf : (⟨S1024x256, .f32⟩ : BufTy).Contents (Elt F) → (⟨S1024x256, .f32⟩ : BufTy).Contents (Elt F) → (⟨S1024x256, .f32⟩ : BufTy).Contents (Elt F)),
   .bin (.of main_v77) (.of main_arg5) (.of main_v78) ((fun l r => Host.dotGeneral dot_S1024x256_S256x1024_S1024x1024_1_0_0_1_n_n none l r) : (⟨S1024x256, .f32⟩ : BufTy).Contents (Elt F) → (⟨S256x1024, .f32⟩ : BufTy).Contents (Elt F) → (⟨S1024x1024, .f32⟩ : BufTy).Contents (Elt F)),
   .un (.of main_arg6) (.of main_v79) (broadcastInDim S1x1024 ![1] bcast_S1024_S1x1024_1 : (⟨S1024, .f32⟩ : BufTy).Contents (Elt F) → (⟨S1x1024, .f32⟩ : BufTy).Contents (Elt F)),
   .un (.of main_v79) (.of main_v80) (broadcastInDim S1024x1024 ![0, 1] bcast_S1x1024_S1024x1024_0_1 : (⟨S1x1024, .f32⟩ : BufTy).Contents (Elt F) → (⟨S1024x1024, .f32⟩ : BufTy).Contents (Elt F)),
   .bin (.of main_v78) (.of main_v80) (.of main_v81) (addf : (⟨S1024x1024, .f32⟩ : BufTy).Contents (Elt F) → (⟨S1024x1024, .f32⟩ : BufTy).Contents (Elt F) → (⟨S1024x1024, .f32⟩ : BufTy).Contents (Elt F))] ++ (reluOps (.of main_v81) main_call9 ++
  [.bin (.of main_v82) (.of main_arg7) (.of main_v83) ((fun l r => Host.dotGeneral dot_S1024x1024_S1024x8192_S1024x8192_1_0_0_1_n_n none l r) : (⟨S1024x1024, .f32⟩ : BufTy).Contents (Elt F) → (⟨S1024x8192, .f32⟩ : BufTy).Contents (Elt F) → (⟨S1024x8192, .f32⟩ : BufTy).Contents (Elt F)),
   .un (.of main_arg8) (.of main_v84) (broadcastInDim S1x8192 ![1] bcast_S8192_S1x8192_1 : (⟨S8192, .f32⟩ : BufTy).Contents (Elt F) → (⟨S1x8192, .f32⟩ : BufTy).Contents (Elt F)),
   .un (.of main_v84) (.of main_v85) (broadcastInDim S1024x8192 ![0, 1] bcast_S1x8192_S1024x8192_0_1 : (⟨S1x8192, .f32⟩ : BufTy).Contents (Elt F) → (⟨S1024x8192, .f32⟩ : BufTy).Contents (Elt F)),
   .bin (.of main_v83) (.of main_v85) (.of main_v86) (addf : (⟨S1024x8192, .f32⟩ : BufTy).Contents (Elt F) → (⟨S1024x8192, .f32⟩ : BufTy).Contents (Elt F) → (⟨S1024x8192, .f32⟩ : BufTy).Contents (Elt F)),
   .resh (.of main_v86) (.of main_v87) (rfl : (.f32 : EltTy) = .f32) shapeCasts_S1024x8192_S1024x32x256])

/-- The program's first sixty statements. -/
def ops0 : List (Op τ sig (Elt F)) :=
  encOps ++ (firstOps ++ (headOps 1 (.of main_v18) (.of main_v19) (.of main_v17) main_call2 (.of main_v14) (.of main_v21) ++ (tailOps (.of main_v17) (.of main_v16) (.of main_v23) (.of main_v24) (.of main_v15) (.of main_v22) main_call2 ++ (headOps 2 (.of main_v25) (.of main_v26) (.of main_v24) main_call3 (.of main_v21) (.of main_v28) ++ (tailOps (.of main_v24) (.of main_v23) (.of main_v30) (.of main_v31) (.of main_v22) (.of main_v29) main_call3 ++ (headOps 3 (.of main_v32) (.of main_v33) (.of main_v31) main_call4 (.of main_v28) (.of main_v35) ++ (tailOps (.of main_v31) (.of main_v30) (.of main_v37) (.of main_v38) (.of main_v29) (.of main_v36) main_call4 ++ (headOps 4 (.of main_v39) (.of main_v40) (.of main_v38) main_call5 (.of main_v35) (.of main_v42) ++ (tailOps (.of main_v38) (.of main_v37) (.of main_v44) (.of main_v45) (.of main_v36) (.of main_v43) main_call5 ++ (headOps 5 (.of main_v46) (.of main_v47) (.of main_v45) main_call6 (.of main_v42) (.of main_v49) ++ (tailOps (.of main_v45) (.of main_v44) (.of main_v51) (.of main_v52) (.of main_v43) (.of main_v50) main_call6 ++ (headOps 6 (.of main_v53) (.of main_v54) (.of main_v52) main_call7 (.of main_v49) (.of main_v56)))))))))))))

/-- The other statements. -/
def ops1 : List (Op τ sig (Elt F)) :=
  tailOps (.of main_v52) (.of main_v51) (.of main_v58) (.of main_v59) (.of main_v50) (.of main_v57) main_call7 ++ (headOps 7 (.of main_v60) (.of main_v61) (.of main_v59) main_call8 (.of main_v56) (.of main_v63) ++ (tailOps (.of main_v59) (.of main_v58) (.of main_v65) (.of main_v66) (.of main_v57) (.of main_v64) main_call8 ++ (codeOps ++ decOps)))

/-- The program. -/
def mainOps : List (Op τ sig (Elt F)) := ops0 ++ ops1

/-- The program's first part is its line. -/
theorem main_line0 (d : Dev nD) : IsLine (main_part0 (F := F) d) ops0 := by
  unfold main_part0 ops0 encOps firstOps headOps tailOps
  simp only [List.cons_append, List.nil_append, List.append_assoc]
  iterate 5 refine .cons (by rfl) ?_
  refine .append (relu_line _ _) ?_
  iterate 8 refine .cons (by rfl) ?_
  refine .append (level_line _ _ _) ?_
  iterate 8 refine .cons (by rfl) ?_
  refine .append (level_line _ _ _) ?_
  iterate 5
    iterate 6 refine .cons (by rfl) ?_
    refine .append (level_line _ _ _) ?_
  iterate 1 refine .cons (by rfl) ?_
  exact .nil

/-- The program's second part is its line. -/
theorem main_line1 (d : Dev nD) : IsLine (main_part1 (F := F) d) ops1 := by
  unfold main_part1 ops1 codeOps decOps headOps tailOps
  simp only [List.cons_append, List.nil_append, List.append_assoc]
  iterate 5 refine .cons (by rfl) ?_
  refine .append (level_line _ _ _) ?_
  iterate 19 refine .cons (by rfl) ?_
  refine .append (relu_line _ _) ?_
  iterate 5 refine .cons (by rfl) ?_
  exact .nil

/-- The program is its line. -/
theorem main_line (d : Dev nD) : IsLine (main (F := F) d) mainOps := (main_line0 d).append (main_line1 d)

/-- The buffers after the arguments are written in the order of their numbers. -/
theorem main_ordered : ordered 9 ((mainOps (F := Idealize.ShloMosaic.Ideal)).map Op.step) = true := by decide +kernel

end Cert.Ref
-- ==== Proof.RefValue.lean ====
module

public import proofs.«01_k».proof.Proof.RefMain

@[expose] public section

/-! What the reference's run leaves: its five results as functions of its arguments. -/

set_option maxRecDepth 16384

noncomputable section

namespace Cert.Ref

open Idealize.ShloMosaic Idealize.ShloMosaic.StableHlo Idealize.SL.Sem
open Cert.ReferenceIdeal Cert.ReferenceIdeal.Facts₀ Cert.ReferenceIdeal.Facts Cert.Lines

variable {F : FTy → Type} [FloatOps F]

/-! ## The functions' values -/

/-- A number at every place of the scalar shape. -/
abbrev num (w : BitVec 32) : FVec F S_ .f32 := constant S_ .f32 w

/-- The larger of the entry and zero. -/
def rRelu (x : FVec F S1024x1024 .f32) : FVec F S1024x1024 .f32 :=
  maximumf x (broadcastInDim S1024x1024 ![] bcast_S_S1024x1024 (num 0x00000000#32))

/-- The squared distances of the rows of `r` from the rows of `c`. -/
def rDist (r c : FVec F S1024x256 .f32) : FVec F S1024x1024 .f32 :=
  addf (subf (broadcastInDim S1024x1024 ![0, 1] bcast_S1024x1_S1024x1024_0_1
      (broadcastInDim S1024x1 ![0] bcast_S1024_S1024x1_0
        (Host.reduceAdd (mulf r r) (num 0x00000000#32) reducesTo_S1024x256_S1024_d1 h_S_)))
    (Host.dotGeneral dot_S1024x256_S256x1024_S1024x1024_1_0_0_1_n_n none
      (mulf (broadcastInDim S1024x256 ![] bcast_S_S1024x256 (num 0x40000000#32)) r)
      (transpose S256x1024 [1, 0] c transposes_S1024x256_S256x1024_1_0)))
    (broadcastInDim S1024x1024 ![0, 1] bcast_S1x1024_S1024x1024_0_1 (broadcastInDim S1x1024 ![1] bcast_S1024_S1x1024_1
      (Host.reduceAdd (mulf c c) (num 0x00000000#32) reducesTo_S1024x256_S1024_d1 h_S_)))

/-- The position of each row's least entry. -/
def rArgmin (d : FVec F S1024x1024 .f32) : IVec S1024 32 := fun j =>
  (Host.argReduce reducer_argmin_f32_i32 d (iotaInDim S1024x1024 32 1) (num 0x7F800000#32) (constantI S_ 32 0#32)
    reducesTo_S1024x1024_S1024_d1 h_S_ j).2

/-- The positions to read at: negative ones count from the end. -/
def rAt (i : IVec S1024 32) : IVec S1024x1 32 :=
  broadcastInDim S1024x1 ![0] bcast_S1024_S1024x1_0
    (select (cmpi .slt i (broadcastInDim S1024 ![] bcast_S_S1024 (constantI S_ 32 0#32)))
      (addi i (broadcastInDim S1024 ![] bcast_S_S1024 (constantI S_ 32 1024#32))) i)

/-- The rows of `c` at the positions `i`, where these lie inside it. -/
def rTake (c : FVec F S1024x256 .f32) (i : IVec S1024 32) : FVec F S1024x256 .f32 :=
  select (broadcastInDim S1024x256 ![0] bcast_S1024_S1024x256_0
      (Host.reduce IntOp.andi (andi (cmpi .sge (rAt i) (broadcastInDim S1024x1 ![] bcast_S_S1024x1 (constantI S_ 32 0#32)))
        (cmpi .sle (rAt i) (broadcastInDim S1024x1 ![0, 1] bcast_S1x1_S1024x1_0_1
          (broadcastInDim S1x1 ![1] bcast_S1_S1x1_1 (constantI S1 32 1023#32)))))
        (constantI S_ 1 1#1) reducesTo_S1024x1_S1024_d1 h_S_))
    (Host.gather gather_S1024x256_S1024x1_S1024x256_1_0_n_n_0_1_1256 c (rAt i))
    (broadcastInDim S1024x256 ![] bcast_S_S1024x256 (num 0x7FC00000#32))

/-- The mean of the squares of `r - q`. -/
def rMean (r q : FVec F S1024x256 .f32) : FVec F S_ .f32 :=
  Host.divf (Host.reduceAdd (mulf (subf r q) (subf r q)) (num 0x00000000#32) reducesTo_S1024x256_S_d0_1 h_S_)
    (num 0x48800000#32)

/-- A level's quantisation loss. -/
def rLoss (r q : FVec F S1024x256 .f32) : FVec F S_ .f32 :=
  addf (mulf (num 0x3E800000#32) (rMean r q)) (rMean r q)

/-- Ones where the row's position is the column. -/
def rHot (i : IVec S1024 32) : FVec F S1024x1024 .f32 :=
  uitofp .f32 (cmpi .eq (broadcastInDim S1024x1024 ![0, 1] bcast_S1024x1_S1024x1024_0_1
      (broadcastInDim S1024x1 ![0] bcast_S1024_S1024x1_0 i))
    (broadcastInDim S1024x1024 ![0, 1] bcast_S1x1024_S1024x1024_0_1 (iotaInDim S1x1024 32 1)))

/-- How often each position is taken, of the rows. -/
def rProbs (i : IVec S1024 32) : FVec F S1024 .f32 :=
  Host.divf (Host.reduceAdd (rHot i) (num 0x00000000#32) reducesTo_S1024x1024_S1024_d0 h_S_)
    (broadcastInDim S1024 ![] bcast_S_S1024 (num 0x44800000#32))

/-- A level's usage term. -/
def rUsage (i : IVec S1024 32) : FVec F S_ .f32 :=
  mulf (num 0x3A83126F#32) (Host.reduceAdd (mulf (rProbs i) (Host.log (addf (rProbs i)
    (broadcastInDim S1024 ![] bcast_S_S1024 (num 0x2EDBE6FF#32))))) (num 0x00000000#32) reducesTo_S1024_S_d0 h_S_)

/-! ## Read off the final contents -/

section Values

variable {W : Valuation τ sig (Elt F)}

/-- What the rectifier leaves. -/
theorem relu_val {a : FRef S1024x1024} {φ : fn_relu.Bufs} (h : lineEqs W (reluOps a φ)) : rd W φ.v1 = rRelu (rd W a) := by
  simp only [lineEqs, reluOps] at h
  obtain ⟨h1, h2, h3, -⟩ := h
  rw [h3, h2, h1]; rfl

/-- The distances of a level. -/
theorem dist_val {a b : FRef S1024x256} {φ : fn_vq_level.Bufs} (h : lineEqs W (distOps a b φ)) :
    rd W φ.v13 = rDist (rd W a) (rd W b) := by
  simp only [lineEqs, distOps] at h
  obtain ⟨h1, h2, h3, h4, h5, h6, h7, h8, h9, h10, h11, h12, h13, h14, h15, h16, h17, -⟩ := h
  rw [h17, h16, h15, h14, h13, h12, h11, h10, h9, h8, h7, h6, h5, h4, h3, h2, h1]; rfl

/-- The positions of the least distances. -/
theorem argmin_val {a : FRef S1024x1024} {φ : fn_argmin.Bufs} (h : lineEqs W (argminOps a φ)) :
    rd W φ.v1_1 = rArgmin (rd W a) := by
  simp only [lineEqs, argminOps] at h
  obtain ⟨h1, h2, h3, -, h5, -⟩ := h
  rw [h5, h1, h2, h3]; rfl

/-- The rows taken. -/
theorem take_val {a : FRef S1024x256} {b : TRef sig ⟨S1024, .i32⟩} {φ : fn_take.Bufs} (h : lineEqs W (takeOps a b φ)) :
    rd W φ.v16 = rTake (rd W a) (rd W b) := by
  simp only [lineEqs, takeOps, whereOps, List.cons_append, List.nil_append] at h
  obtain ⟨h1, h2, h3, h4, h5, h6, h7, h8, h9, h10, h11, h12, h13, h14, h15, h16, h17, h18, h19, h20, h21, h22, h23, -⟩ := h
  rw [h23, h22, h21, h20, h19, h18, h17, h16, h15, h14, h13, h12, h11, h10, h9, h8, h7, h6, h5, h4, h3, h2, h1]; rfl

/-- A level's quantisation loss. -/
theorem loss_val {a : FRef S1024x256} {φ : fn_vq_level.Bufs} (h : lineEqs W (lossOps a φ)) :
    rd W φ.v25 = rLoss (rd W a) (rd W φ.call1.v16) := by
  simp only [lineEqs, lossOps] at h
  obtain ⟨h1, h2, h3, h4, h5, h6, h7, h8, h9, h10, h11, h12, h13, h14, h15, -⟩ := h
  rw [h15, h14, h13, h12, h11, h10, h9, h8, h7, h6, h5, h4, h3, h2, h1]; rfl

/-- The one-hot matrix. -/
theorem oneHot_val {a : TRef sig ⟨S1024, .i32⟩} {φ : fn_one_hot.Bufs} (h : lineEqs W (oneHotOps a φ)) :
    rd W φ.v5 = rHot (rd W a) := by
  simp only [lineEqs, oneHotOps] at h
  obtain ⟨h1, h2, h3, h4, h5, h6, -⟩ := h
  rw [h6, h5, h4, h3, h2, h1]; rfl

/-- A level's usage loss. -/
theorem usage_val {i : IVec S1024 32} {φ : fn_vq_level.Bufs} (hi : rd W φ.call2.v5 = rHot i) (h : lineEqs W (usageOps φ)) :
    rd W φ.v35 = rUsage i := by
  simp only [lineEqs, usageOps] at h
  obtain ⟨h1, h2, h3, h4, h5, h6, h7, h8, h9, h10, h11, h12, h13, h14, -⟩ := h
  rw [h14, h13, h12, h11, h10, h9, h8, h7, h6, h5, h4, h3, h2, h1, hi]; rfl

/-- A level's values: the positions, the rows there, the loss and the usage term. -/
theorem level_val {a b : FRef S1024x256} {φ : fn_vq_level.Bufs} (h : lineEqs W (levelOps a b φ)) :
    rd W φ.call0.v1_1 = rArgmin (rDist (rd W a) (rd W b)) ∧
    rd W φ.call1.v16 = rTake (rd W b) (rArgmin (rDist (rd W a) (rd W b))) ∧
    rd W φ.v25 = rLoss (rd W a) (rTake (rd W b) (rArgmin (rDist (rd W a) (rd W b)))) ∧
    rd W φ.v35 = rUsage (rArgmin (rDist (rd W a) (rd W b))) := by
  simp only [levelOps, lineEqs_append] at h
  obtain ⟨hd, ha, ht, hl, ho, hu⟩ := h
  have e1 : rd W φ.call0.v1_1 = rArgmin (rDist (rd W a) (rd W b)) := by rw [argmin_val ha, dist_val hd]
  have e2 : rd W φ.call1.v16 = rTake (rd W b) (rArgmin (rDist (rd W a) (rd W b))) := by rw [take_val ht, e1]
  refine ⟨e1, e2, ?_, usage_val ?_ hu⟩
  · rw [loss_val hl, e2]
  · rw [oneHot_val ho, e1]

end Values

/-! ## The levels in turn -/

/-- Codebook `l`. -/
def cbAt (X : FVec F S8x1024x256 .f32) (l : Fin 8) : FVec F S1024x256 .f32 :=
  shapeCast S1024x256 (extractStridedSlice S1x1024x256 ![l.val, 0, 0] X (slices l)) shapeCasts_S1x1024x256_S1024x256

/-- Where the levels stand: the residual, the sum of the rows taken, and the two losses so far. -/
structure Stand (F : FTy → Type) where
  res : FVec F S1024x256 .f32
  zq : FVec F S1024x256 .f32
  ql : FVec F S_ .f32
  us : FVec F S_ .f32

/-- The positions a level takes. -/
def rIdx (r c : FVec F S1024x256 .f32) : IVec S1024 32 := rArgmin (rDist r c)

/-- One level on. -/
def Stand.next (s : Stand F) (c : FVec F S1024x256 .f32) : Stand F where
  res := subf s.res (rTake c (rIdx s.res c))
  zq := addf s.zq (rTake c (rIdx s.res c))
  ql := addf s.ql (rLoss s.res (rTake c (rIdx s.res c)))
  us := addf s.us (rUsage (rIdx s.res c))

/-- Where the levels start. -/
def Stand.start (z : FVec F S1024x256 .f32) : Stand F where
  res := z
  zq := broadcastInDim S1024x256 ![] bcast_S_S1024x256 (num 0x00000000#32)
  ql := num 0x00000000#32
  us := num 0x00000000#32

/-- Where they stand after `n` levels. -/
def stand (z : FVec F S1024x256 .f32) (X : FVec F S8x1024x256 .f32) : ℕ → Stand F
  | 0 => .start z
  | n + 1 => (stand z X n).next (cbAt X (Fin.ofNat 8 n))

/-- The positions level `l` takes. -/
def codesAt (z : FVec F S1024x256 .f32) (X : FVec F S8x1024x256 .f32) (l : Fin 8) : IVec S1024 32 :=
  rIdx (stand z X l.val).res (cbAt X l)

section Levels

variable {W : Valuation τ sig (Elt F)}

/-- The contents of a level's sums and residual are `s`. -/
structure At (W : Valuation τ sig (Elt F)) (s : Stand F) (res zq : FRef S1024x256) (ql us : FRef S_) : Prop where
  res : rd W res = s.res
  zq : rd W zq = s.zq
  ql : rd W ql = s.ql
  us : rd W us = s.us

/-- A level takes the sums and the residual one step on. -/
theorem level_at {z : FVec F S1024x256 .f32} {X : FVec F S8x1024x256 .f32} {l : Fin 8} {s : FRef S1x1024x256}
    {c res zq res' zq' : FRef S1024x256} {ql us ql' us' : FRef S_} {φ : fn_vq_level.Bufs}
    (hX : rd W (.of main_arg9 : FRef S8x1024x256) = X)
    (h : At W (stand z X l.val) res zq ql us) (hh : lineEqs W (headOps l s c res φ ql ql'))
    (ht : lineEqs W (tailOps res zq zq' res' us us' φ)) :
    At W (stand z X (l.val + 1)) res' zq' ql' us' ∧ rd W φ.call0.v1_1 = codesAt z X l := by
  simp only [headOps, tailOps, lineEqs_append, lineEqs] at hh ht
  obtain ⟨⟨e1, e2, -⟩, hl, e3, -⟩ := hh
  obtain ⟨e4, e5, e6, -⟩ := ht
  obtain ⟨i, q, lo, u⟩ := level_val hl
  have hc : rd W c = cbAt X l := by rw [e2, e1, hX]; rfl
  have hn : Fin.ofNat 8 l.val = l := Fin.ext (Nat.mod_eq_of_lt l.isLt)
  rw [hc, h.res] at i q lo u
  refine ⟨⟨?_, ?_, ?_, ?_⟩, i⟩ <;> rw [stand, hn]
  · rw [e6, q, h.res]; rfl
  · rw [e5, q, h.zq]; rfl
  · rw [e3, lo, h.ql]; rfl
  · rw [e4, u, h.us]; rfl

end Levels

end Cert.Ref
-- ==== Proof.KLevel.lean ====
module

public import proofs.«01_k».proof.Proof.Gen.KernelIdeal.Frame
public import proofs.«01_k».proof.Proof.RefValue
public import Idealize.ShloMosaic.Lib.Pipeline.Value

@[expose] public section

/-! The quantiser kernel's values: what its body stores, as a walk over the eight codebooks. -/

set_option maxRecDepth 16384

noncomputable section

namespace Cert.KLevel

open Idealize.ShloMosaic
open Cert.KernelIdeal Cert.KernelIdeal.Gen

variable {F : FTy → Type} [FloatOps F]

/-! ## One level -/

/-- A row of numbers along each row of a square. -/
def kSpread (v : FVec F S1024 .f32) : FVec F S1024x1024 .f32 :=
  broadcastTo S1024x1024 (shapeCast S1024x1 v shapeCasts_S1024_S1024x1) broadcasts_S1024x1_S1024x1024

/-- The rows' sums of squares. -/
def kNorm (a : FVec F S1024x256 .f32) : FVec F S1024 .f32 :=
  multiReduction .add [1] S1024 (mulf a a) 0x00000000#32 reduces_S1024x256_S1024 (.inl rfl) rfl

/-- The squared distances of the rows of `r` from the rows of `c`. -/
def kDist (r c : FVec F S1024x256 .f32) : FVec F S1024x1024 .f32 :=
  addf (addf (kSpread (kNorm r))
      (matmul dot_S1024x256_S256x1024_S1024x1024_1_0_0_1_n_n none
        (mulf (broadcast S1024x256 (Scalar.ofBits .f32 0xC0000000#32)) r)
        (transpose S256x1024 [1, 0] c transposes_S1024x256_p1_0_S256x1024) (constant S1024x1024 .f32 0x00000000#32)))
    (broadcastTo S1024x1024 (shapeCast S1x1024 (kNorm c) shapeCasts_S1024_S1x1024) broadcasts_S1x1024_S1024x1024)

/-- The rows' least entries. -/
def kLeast (d : FVec F S1024x1024 .f32) : FVec F S1024 .f32 :=
  multiReduction .minimumf [1] S1024 d 0x7F800000#32 reduces_S1024x1024_S1024 (.inl rfl) rfl

/-- The first position of each row's least entry, as a number. -/
def kPos (d : FVec F S1024x1024 .f32) : FVec F S1024 .f32 :=
  kLeast (select (cmpf .oeq d (kSpread (kLeast d))) (k1_pay4 (F := F)) (broadcast S1024x1024 (Scalar.ofBits .f32 0x44800000#32)))

/-- One where the row's position is the column, zero elsewhere, as integers. -/
def kHotI (p : FVec F S1024 .f32) : IVec S1024x1024 32 :=
  extui 32 (cmpf .oeq (k1_pay4 (F := F)) (kSpread p)) natLt_1_32

/-- The same as numbers. -/
def kHot (p : FVec F S1024 .f32) : FVec F S1024x1024 .bf16 := truncf .bf16 (sitofp .f32 (kHotI p)) bitsLt_bf16_f32

/-- A codebook's leading part. -/
def kHi (c : FVec F S1024x256 .f32) : FVec F S1024x256 .bf16 := truncf .bf16 c bitsLt_bf16_f32

/-- The part the leading one leaves. -/
def kMid (c : FVec F S1024x256 .f32) : FVec F S1024x256 .bf16 :=
  truncf .bf16 (subf c (extf .f32 (kHi c) bitsLt_bf16_f32)) bitsLt_bf16_f32

/-- A square times a codebook's part. -/
def kPart (h : FVec F S1024x1024 .bf16) (b : FVec F S1024x256 .bf16) : FVec F S1024x256 .f32 :=
  matmul dot_S1024x1024_S1024x256_S1024x256_1_0_0_1_n_n none h b (constant S1024x256 .f32 0x00000000#32)

/-- The positions a level takes. -/
def kAt (r c : FVec F S1024x256 .f32) : FVec F S1024 .f32 := kPos (kDist r c)

/-- The rows of `c` that a level takes. -/
def kRows (r c : FVec F S1024x256 .f32) : FVec F S1024x256 .f32 :=
  addf (kPart (kHot (kAt r c)) (kHi c)) (kPart (kHot (kAt r c)) (kMid c))

/-- The sum of the squares of `r - q`. -/
def kSq (r q : FVec F S1024x256 .f32) : F .f32 :=
  extractAt ![0, 0, 0] (shapeCast S1x1x1 (multiReduction .add [1, 2] S1
    (shapeCast S1x1024x256 (mulf (subf r q) (subf r q)) shapeCasts_S1024x256_S1x1024x256) 0x00000000#32
    reduces_S1x1024x256_S1 (.inl rfl) rfl) shapeCasts_S1_S1x1x1) inpos_S1x1x1_p0_0_0

/-- How often each position is taken. -/
def kCount (p : FVec F S1024 .f32) : FVec F S1024 .f32 :=
  multiReduction .add [0] S1024 (extf .f32 (kHot p) bitsLt_bf16_f32) 0x00000000#32 reduces_S1024x1024_S1024_2 (.inl rfl) rfl

/-! ## The levels in turn -/

/-- Where the levels stand: the residual, the sum of the rows taken, and the sum of the squares so far. -/
structure KStand (F : FTy → Type) where
  res : FVec F S1024x256 .f32
  zq : FVec F S1024x256 .f32
  sq : F .f32

/-- One level on. -/
def KStand.next (s : KStand F) (c : FVec F S1024x256 .f32) : KStand F where
  res := subf s.res (kRows s.res c)
  zq := addf s.zq (kRows s.res c)
  sq := Scalar.addf s.sq (kSq s.res (kRows s.res c))

/-- Where they stand after `n` levels. -/
def kstand (z : FVec F S1024x256 .f32) (X : FVec F S8x1024x256 .f32) : ℕ → KStand F
  | 0 => ⟨z, k1_pay3, Scalar.ofBits .f32 0x00000000#32⟩
  | n + 1 => (kstand z X n).next (Ref.cbAt X (Fin.ofNat 8 n))

/-- The positions level `l` takes. -/
def kposAt (z : FVec F S1024x256 .f32) (X : FVec F S8x1024x256 .f32) (l : Fin 8) : FVec F S1024 .f32 :=
  kAt (kstand z X l.val).res (Ref.cbAt X l)

/-- The codes, a column for each level. -/
def kCodes (p : Fin 8 → FVec F S1024 .f32) : IVec S1024x8 32 :=
  transpose S1024x8 [1, 0] (concatenate S8x1024 0
    [⟨S1x1024, shapeCast S1x1024 (fptosi 32 (p 0)) shapeCasts_S1024_S1x1024⟩,
     ⟨S1x1024, shapeCast S1x1024 (fptosi 32 (p 1)) shapeCasts_S1024_S1x1024⟩,
     ⟨S1x1024, shapeCast S1x1024 (fptosi 32 (p 2)) shapeCasts_S1024_S1x1024⟩,
     ⟨S1x1024, shapeCast S1x1024 (fptosi 32 (p 3)) shapeCasts_S1024_S1x1024⟩,
     ⟨S1x1024, shapeCast S1x1024 (fptosi 32 (p 4)) shapeCasts_S1024_S1x1024⟩,
     ⟨S1x1024, shapeCast S1x1024 (fptosi 32 (p 5)) shapeCasts_S1024_S1x1024⟩,
     ⟨S1x1024, shapeCast S1x1024 (fptosi 32 (p 6)) shapeCasts_S1024_S1x1024⟩,
     ⟨S1x1024, shapeCast S1x1024 (fptosi 32 (p 7)) shapeCasts_S1024_S1x1024⟩]
    concatenates_S1x1024_S1x1024_S1x1024_S1x1024_S1x1024_S1x1024_S1x1024_S1x1024_S8x1024_d0) transposes_S8x1024_p1_0_S1024x8

/-- The levels' counts, a row for each. -/
def kCounts (p : Fin 8 → FVec F S1024 .f32) : FVec F S8x1024 .f32 :=
  concatenate S8x1024 0
    [⟨S1x1024, shapeCast S1x1024 (kCount (p 0)) shapeCasts_S1024_S1x1024⟩,
     ⟨S1x1024, shapeCast S1x1024 (kCount (p 1)) shapeCasts_S1024_S1x1024⟩,
     ⟨S1x1024, shapeCast S1x1024 (kCount (p 2)) shapeCasts_S1024_S1x1024⟩,
     ⟨S1x1024, shapeCast S1x1024 (kCount (p 3)) shapeCasts_S1024_S1x1024⟩,
     ⟨S1x1024, shapeCast S1x1024 (kCount (p 4)) shapeCasts_S1024_S1x1024⟩,
     ⟨S1x1024, shapeCast S1x1024 (kCount (p 5)) shapeCasts_S1024_S1x1024⟩,
     ⟨S1x1024, shapeCast S1x1024 (kCount (p 6)) shapeCasts_S1024_S1x1024⟩,
     ⟨S1x1024, shapeCast S1x1024 (kCount (p 7)) shapeCasts_S1024_S1x1024⟩]
    concatenates_S1x1024_S1x1024_S1x1024_S1x1024_S1x1024_S1x1024_S1x1024_S1x1024_S8x1024_d0

/-! ## The body's values -/

section Body

variable (z : Vec F S1024x256 .f32) (X : Vec F S8x1024x256 .f32)

/-- The load of the encoder's rows reads them whole. -/
theorem ld_z : View.ld z r1_0 = z := View.ld_unit_zero (by funext a; fin_cases a <;> rfl) _ _

/-- A slab's cast of what is loaded from it is the codebook. -/
theorem slab (l : Fin 8) (inb : ∀ a, (![l.val, 0, 0] : Fin 3 → ℕ) a + S1x1024x256.size a ≤ S8x1024x256.size a) :
    shapeCast S1024x256 (View.ld X (Rect.unit (s := S8x1024x256) ![l.val, 0, 0] S1x1024x256.size inb))
      shapeCasts_S1x1024x256_S1024x256 = Ref.cbAt X l :=
  congrArg (shapeCast S1024x256 · shapeCasts_S1x1024x256_S1024x256) (View.ld_unit X _ _ inb)

/-! The eight codebooks as the body loads them, level 0 to level 7. -/

theorem slab0 : k1_pay5 (View.ld X r1_1) = Ref.cbAt X 0 := slab X 0 inb_S8x1024x256_S1x1024x256_0_0_0
theorem slab1 : k1_pay14 (View.ld X r1_2) = Ref.cbAt X 1 := slab X 1 inb_S8x1024x256_S1x1024x256_1_0_0
theorem slab2 : k1_pay23 (View.ld X r1_3) = Ref.cbAt X 2 := slab X 2 inb_S8x1024x256_S1x1024x256_2_0_0
theorem slab3 : k1_pay35 (View.ld X r1_4) = Ref.cbAt X 3 := slab X 3 inb_S8x1024x256_S1x1024x256_3_0_0
theorem slab4 : k1_pay47 (View.ld X r1_5) = Ref.cbAt X 4 := slab X 4 inb_S8x1024x256_S1x1024x256_4_0_0
theorem slab5 : k1_pay58 (View.ld X r1_6) = Ref.cbAt X 5 := slab X 5 inb_S8x1024x256_S1x1024x256_5_0_0
theorem slab6 : k1_pay70 (View.ld X r1_7) = Ref.cbAt X 6 := slab X 6 inb_S8x1024x256_S1x1024x256_6_0_0
theorem slab7 : k1_pay82 (View.ld X r1_8) = Ref.cbAt X 7 := slab X 7 inb_S8x1024x256_S1x1024x256_7_0_0

/-- The cast of the rows to their own shape changes nothing. -/
theorem res0 : k1_pay2 z = z := shapeCast_self _ _

/-! The body's values in their order: at level `l`, `pos` is the kernel's position, and a `val` is the residual before a level
    (`(kstand z X l).res`), a part of a codebook, a one-hot matrix, or the rows taken. -/

theorem val93 : k1_pay93 z X = (kstand z X 0).res := by unfold k1_pay93; rw [ld_z, res0]; rfl
theorem pos0 : k1_pay6 (View.ld z r1_0) (View.ld X r1_1) = kposAt z X 0 := by
  rw [ld_z]; show kAt (k1_pay2 z) (k1_pay5 (View.ld X r1_1)) = _; rw [res0, slab0]; rfl
theorem val95 : k1_pay95 z X = kRows (kstand z X 0).res (Ref.cbAt X 0) := by
  unfold k1_pay95; rw [ld_z]; show kRows (k1_pay2 z) (k1_pay5 (View.ld X r1_1)) = _; rw [res0, slab0]; rfl
theorem val96 : k1_pay96 z X = (kstand z X 1).res := by unfold k1_pay96; rw [val93, val95]; rfl
theorem pos1 : k1_pay15 (k1_pay93 z X) (k1_pay94 z X) (k1_pay95 z X) (View.ld X r1_2) = kposAt z X 1 := by
  show kAt (k1_pay96 z X) (k1_pay14 (View.ld X r1_2)) = _
  rw [val96, slab1]; rfl
theorem val97 : k1_pay97 z X = kRows (kstand z X 1).res (Ref.cbAt X 1) := by
  show kRows (k1_pay96 z X) (k1_pay14 (View.ld X r1_2)) = _
  rw [val96, slab1]
theorem val98 : k1_pay98 z X = (kstand z X 2).res := by unfold k1_pay98; rw [val96, val97]; rfl
theorem pos2 : k1_pay25 (k1_pay94 z X) (k1_pay96 z X) (k1_pay97 z X) (View.ld X r1_3) = kposAt z X 2 := by
  show kAt (k1_pay98 z X) (k1_pay23 (View.ld X r1_3)) = _
  rw [val98, slab2]; rfl
theorem val99 : k1_pay99 z X = kPart (kHot (kposAt z X 2)) (kHi (Ref.cbAt X 2)) := by
  rw [← pos2, ← slab2]; rfl
theorem val100 : k1_pay100 z X = kPart (kHot (kposAt z X 2)) (kMid (Ref.cbAt X 2)) := by
  rw [← pos2, ← slab2]; rfl
theorem val101 : k1_pay101 z X = (kstand z X 3).res := by unfold k1_pay101; rw [val98, val99, val100]; rfl
theorem pos3 : k1_pay38 (k1_pay94 z X) (k1_pay98 z X) (k1_pay99 z X) (k1_pay100 z X) (View.ld X r1_4) = kposAt z X 3 := by
  show kAt (k1_pay101 z X) (k1_pay35 (View.ld X r1_4)) = _
  rw [val101, slab3]; rfl
theorem val102 : k1_pay102 z X = kMid (Ref.cbAt X 3) := by rw [← slab3]; rfl
theorem val103 : k1_pay103 z X = kHot (kposAt z X 3) := by rw [← pos3]; rfl
theorem val104 : k1_pay104 z X = kPart (kHot (kposAt z X 3)) (kHi (Ref.cbAt X 3)) := by rw [← pos3, ← slab3]; rfl
theorem val105 : k1_pay105 z X = (kstand z X 4).res := by unfold k1_pay105; rw [val101, val102, val103, val104]; rfl
theorem pos4 : k1_pay50 (k1_pay94 z X) (k1_pay101 z X) (k1_pay102 z X) (k1_pay103 z X) (k1_pay104 z X) (View.ld X r1_5) =
    kposAt z X 4 := by
  show kAt (k1_pay105 z X) (k1_pay47 (View.ld X r1_5)) = _
  rw [val105, slab4]; rfl
theorem val106 : k1_pay106 z X = kHi (Ref.cbAt X 4) := by rw [← slab4]; rfl
theorem val107 : k1_pay107 z X = kMid (Ref.cbAt X 4) := by rw [← slab4]; rfl
theorem val108 : k1_pay108 z X = kHot (kposAt z X 4) := by rw [← pos4]; rfl
theorem val109 : k1_pay109 z X = (kstand z X 5).res := by unfold k1_pay109; rw [val105, val106, val107, val108]; rfl
theorem pos5 : k1_pay61 (k1_pay94 z X) (k1_pay105 z X) (k1_pay106 z X) (k1_pay107 z X) (k1_pay108 z X) (View.ld X r1_6) =
    kposAt z X 5 := by
  show kAt (k1_pay109 z X) (k1_pay58 (View.ld X r1_6)) = _
  rw [val109, slab5]; rfl
theorem val110 : k1_pay110 z X = kHi (Ref.cbAt X 5) := by rw [← slab5]; rfl
theorem val111 : k1_pay111 z X = kMid (Ref.cbAt X 5) := by rw [← slab5]; rfl
theorem val112 : k1_pay112 z X = kHotI (kposAt z X 5) := by rw [← pos5]; rfl
theorem val113 : k1_pay113 z X = (kstand z X 6).res := by unfold k1_pay113; rw [val109, val110, val111, val112]; rfl
theorem pos6 : k1_pay73 (k1_pay94 z X) (k1_pay109 z X) (k1_pay110 z X) (k1_pay111 z X) (k1_pay112 z X) (View.ld X r1_7) =
    kposAt z X 6 := by
  show kAt (k1_pay113 z X) (k1_pay70 (View.ld X r1_7)) = _
  rw [val113, slab6]; rfl
theorem val114 : k1_pay114 z X = kHi (Ref.cbAt X 6) := by rw [← slab6]; rfl
theorem val115 : k1_pay115 z X = kMid (Ref.cbAt X 6) := by rw [← slab6]; rfl
theorem val116 : k1_pay116 z X = kSpread (kposAt z X 6) := by rw [← pos6]; rfl
theorem val117 : k1_pay117 z X = kHi (Ref.cbAt X 7) := by rw [← slab7]; rfl
theorem val118 : k1_pay118 z X = kMid (Ref.cbAt X 7) := by rw [← slab7]; rfl
theorem res7 : k1_pay81 (k1_pay94 z X) (k1_pay113 z X) (k1_pay114 z X) (k1_pay115 z X) (k1_pay116 z X) = (kstand z X 7).res := by
  rw [val113, val114, val115, val116]; rfl
theorem val119 : k1_pay119 z X = kposAt z X 7 := by
  show kAt (k1_pay81 (k1_pay94 z X) (k1_pay113 z X) (k1_pay114 z X) (k1_pay115 z X) (k1_pay116 z X)) (k1_pay82 (View.ld X r1_8)) = _
  rw [res7, slab7]; rfl

/-! ## What it stores -/

/-- The sum of the rows taken. -/
theorem out_zq : out1_2 z X = (kstand z X 8).zq := by
  unfold out1_2
  rw [View.canon_unit_zero (by funext a; fin_cases a <;> rfl), val119, val118, val117, val116, val115, val114, val112, val111,
    val110, val108, val107, val106, val104, val103, val102, val100, val99, val97, val95]
  rfl

/-- The codes. -/
theorem out_codes : out1_3 z X = kCodes (kposAt z X) := by
  unfold out1_3
  rw [View.canon_unit_zero (by funext a; fin_cases a <;> rfl), val119, pos2, pos3, pos4, pos5, pos6]
  show k1_pay89 (fptosi 32 (k1_pay6 (View.ld z r1_0) (View.ld X r1_1)))
    (fptosi 32 (k1_pay15 (k1_pay93 z X) (k1_pay94 z X) (k1_pay95 z X) (View.ld X r1_2))) _ _ _ _ _ _ = _
  rw [pos0, pos1]
  rfl

/-- The quantisation loss. -/
theorem out_loss : out1_4 z X =
    broadcast S1x1 (Scalar.mulf (Scalar.ofBits .f32 0x36A00000#32) (kstand z X 8).sq) := by
  unfold out1_4
  rw [View.canon_unit_zero (by funext a; fin_cases a <;> rfl), res7, val119, val118, val117, val116, val115, val114, val113, val112,
    val111, val110, val109, val108, val107, val106, val105, val104, val103, val102, val101, val100, val99, val98, val97, val96, val95,
    val93]
  rfl

/-- The usage loss. -/
theorem out_usage : out1_5 z X = k1_pay1 (kCounts (kposAt z X)) k1_pay92 := by
  have h0 : k1_pay10 (View.ld z r1_0) (View.ld X r1_1) = kCount (kposAt z X 0) := by rw [← pos0]; rfl
  have h1 : k1_pay19 (k1_pay16 (k1_pay93 z X) (k1_pay94 z X) (k1_pay95 z X) (View.ld X r1_2)) = kCount (kposAt z X 1) := by
    rw [← pos1]; rfl
  have h2 : k1_pay31 (k1_pay26 (k1_pay94 z X) (k1_pay96 z X) (k1_pay97 z X) (View.ld X r1_3)) = kCount (kposAt z X 2) := by
    rw [← pos2]; rfl
  unfold out1_5
  rw [View.canon_unit_zero (by funext a; fin_cases a <;> rfl), h0, h1, h2, val119, val116, val112, val108, val103]
  rfl

end Body

end Cert.KLevel
-- ==== Proof.Positions.lean ====
module

public import proofs.«01_k».proof.Proof.KLevel
public import Idealize.ShloMosaic.Lib.Pointwise

@[expose] public section

/-! The position of a row's least entry, read two ways: as the reference folds for it, and as the kernel looks it up. -/

set_option maxRecDepth 16384

noncomputable section

namespace Cert.Level

open Idealize.ShloMosaic
open Cert.KernelIdeal Cert.KernelIdeal.Gen Cert.KLevel

/-- `k` is the first place where `f` is least. -/
def IsFirst (f : Fin 1024 → EReal) (k : Fin 1024) : Prop := (∀ i, f k ≤ f i) ∧ ∀ i, f i = f k → k ≤ i

/-! ## The reference's fold -/

/-- A value and its index. -/
abbrev VI : Type := Ideal .f32 × BitVec 32

/-- `a` comes before `b`: by value, then by index. -/
def Before (a b : VI) : Prop := (show EReal from a.1) < b.1 ∨ (show EReal from a.1) = b.1 ∧ a.2.toInt ≤ b.2.toInt

/-- Everything comes before itself, ties being allowed. -/
theorem Before.refl (a : VI) : Before a a := .inr ⟨rfl, le_rfl⟩

/-- Coming before is transitive. -/
theorem Before.trans {a b c : VI} (h : Before a b) (h' : Before b c) : Before a c := by
  rcases h with h | ⟨h, i⟩ <;> rcases h' with h' | ⟨h', i'⟩
  · exact .inl (lt_trans h h')
  · exact .inl (lt_of_lt_of_eq h h')
  · exact .inl (lt_of_eq_of_lt h h')
  · exact .inr ⟨h.trans h', i.trans i'⟩

/-- The fold's step keeps whichever comes first. -/
theorem step_spec (a b : VI) :
    (Cert.ReferenceIdeal.reducer_argmin_f32_i32 (F := Ideal) a b = a ∧ Before a b) ∨
    (Cert.ReferenceIdeal.reducer_argmin_f32_i32 (F := Ideal) a b = b ∧ Before b a) := by
  obtain ⟨x, i⟩ := a
  obtain ⟨y, j⟩ := b
  change EReal at x y
  have hs : IntOp.cmpi .slt i j = BitVec.ofBool (decide (i.toInt < j.toInt)) := by
    simp [IntOp.cmpi, BitVec.slt]
  unfold Cert.ReferenceIdeal.reducer_argmin_f32_i32 Before
  simp only [Ideal.cmpf_def, Ideal.cmp, hs]
  rcases lt_trichotomy x y with h | h | h
  · left
    simp [h, h.ne, Scalar.select, IntOp.ori, IntOp.andi]
  · subst h
    rcases lt_or_ge i.toInt j.toInt with h | h
    · left
      simp [h, h.le, Scalar.select, IntOp.ori, IntOp.andi]
    · right
      simp [h, not_lt.2 h, Scalar.select, IntOp.ori, IntOp.andi]
  · right
    simp [h, h.ne', not_lt.2 h.le, Scalar.select, IntOp.ori, IntOp.andi]

/-- The fold ends at one of the pairs, which comes before all of them. -/
theorem fold_spec (L : List VI) (x : VI) :
    L.foldl (Cert.ReferenceIdeal.reducer_argmin_f32_i32 (F := Ideal)) x ∈ x :: L ∧
    ∀ y ∈ x :: L, Before (L.foldl (Cert.ReferenceIdeal.reducer_argmin_f32_i32 (F := Ideal)) x) y := by
  induction L generalizing x with
  | nil => exact ⟨List.mem_cons_self, fun y hy => by rw [List.mem_singleton.1 hy]; exact Before.refl x⟩
  | cons a L ih =>
    obtain ⟨hm, hb⟩ := ih (Cert.ReferenceIdeal.reducer_argmin_f32_i32 x a)
    rcases step_spec x a with ⟨e, h⟩ | ⟨e, h⟩ <;> rw [List.foldl_cons] <;> rw [e] at hm hb ⊢
    · refine ⟨?_, fun y hy => ?_⟩
      · rcases List.mem_cons.1 hm with h' | h'
        · rw [h']; exact List.mem_cons_self
        · exact List.mem_cons_of_mem _ (List.mem_cons_of_mem _ h')
      · rcases List.mem_cons.1 hy with rfl | hy
        · exact hb _ List.mem_cons_self
        · rcases List.mem_cons.1 hy with rfl | hy
          · exact (hb _ List.mem_cons_self).trans h
          · exact hb _ (List.mem_cons_of_mem _ hy)
    · refine ⟨List.mem_cons_of_mem _ hm, fun y hy => ?_⟩
      rcases List.mem_cons.1 hy with rfl | hy
      · exact (hb _ List.mem_cons_self).trans h
      · exact hb _ hy

/-- What the reference folds over for row `p`: the row's entries, each with its column. -/
theorem mem_fiber (d : FVec Ideal S1024x1024 .f32) (p : Fin 1024) (y : VI) :
    y ∈ Host.argReduceFiber d (iotaInDim S1024x1024 32 1) Cert.ReferenceIdeal.Facts₀.reducesTo_S1024x1024_S1024_d1 (ix1 p) ↔
    ∃ k : Fin 1024, y = (d (ix2 p k), BitVec.ofNat 32 k.val) := by
  have hd : ∀ i : S1024x1024.Idx,
      Cert.ReferenceIdeal.Facts₀.reducesTo_S1024x1024_S1024_d1.drop i = ix1 p ↔ i 0 = p := fun i => by
    have hv : (Cert.ReferenceIdeal.Facts₀.reducesTo_S1024x1024_S1024_d1.drop i 0 : Nat) = i 0 :=
      Shape.ReducesTo.drop_apply_val _ i 0
    constructor
    · intro h; rw [h] at hv; exact Fin.ext hv.symm
    · intro h; funext a
      fin_cases a
      exact Fin.ext (hv.trans (congrArg Fin.val h))
  unfold Host.argReduceFiber
  simp only [List.mem_map, List.mem_filter, List.mem_finRange, true_and, decide_eq_true_eq, hd]
  constructor
  · rintro ⟨n, h, rfl⟩
    refine ⟨S1024x1024.rowMajor.symm n 1, ?_⟩
    have e : S1024x1024.rowMajor.symm n = ix2 p (S1024x1024.rowMajor.symm n 1) := by
      rw [← h]; exact eq_ix2 _
    exact Prod.ext (congrArg d e) rfl
  · rintro ⟨k, rfl⟩
    refine ⟨S1024x1024.rowMajor (ix2 p k), ?_, ?_⟩
    · rw [Equiv.symm_apply_apply]; rfl
    · rw [Equiv.symm_apply_apply]; rfl

/-- A column number's word, read as an integer. -/
theorem toInt_col (k : Fin 1024) : (BitVec.ofNat 32 k.val).toInt = k.val := by
  rw [BitVec.toInt_ofNat']; have := k.isLt; simp [Int.bmod]; omega

/-- The word of infinity. -/
theorem inf_word : Ideal.ofBits .f32 0x7F800000#32 = ⊤ := by simp [Ideal.ofBits, Ideal.ieee]

/-- The reference's position is the first place where the row is least. -/
theorem argmin_first (d : FVec Ideal S1024x1024 .f32) (p : Fin 1024) :
    ∃ k : Fin 1024, IsFirst (fun i => d (ix2 p i)) k ∧ Ref.rArgmin d (ix1 p) = BitVec.ofNat 32 k.val := by
  unfold Ref.rArgmin
  rw [Ideal.argReduce_eq_reduce2, Host.reduce2_eq_foldl_fiber]
  obtain ⟨hm, hb⟩ := fold_spec
    (Host.argReduceFiber d (iotaInDim S1024x1024 32 1) Cert.ReferenceIdeal.Facts₀.reducesTo_S1024x1024_S1024_d1 (ix1 p))
    (Ideal.ofBits .f32 0x7F800000#32, 0#32)
  rw [inf_word] at hm hb
  show ∃ k, _ ∧ (List.foldl _ (Ideal.ofBits .f32 0x7F800000#32, 0#32) _).2 = _
  rw [inf_word]
  generalize List.foldl (Cert.ReferenceIdeal.reducer_argmin_f32_i32 (F := Ideal)) _ _ = w at hm hb ⊢
  have hall : ∀ k : Fin 1024, Before w (d (ix2 p k), BitVec.ofNat 32 k.val) := fun k =>
    hb _ (List.mem_cons_of_mem _ ((mem_fiber d p _).2 ⟨k, rfl⟩))
  have hw : ∃ k : Fin 1024, w = (d (ix2 p k), BitVec.ofNat 32 k.val) := by
    rcases List.mem_cons.1 hm with h | h
    · refine ⟨0, ?_⟩
      have h0 := hall 0
      rw [h] at h0 ⊢
      rcases h0 with h0 | ⟨h0, -⟩
      · exact absurd h0 not_top_lt
      · exact Prod.ext h0 rfl
    · exact (mem_fiber d p w).1 h
  obtain ⟨k, rfl⟩ := hw
  refine ⟨k, ⟨fun i => ?_, fun i e => ?_⟩, rfl⟩
  · rcases hall i with h | ⟨h, -⟩
    · exact le_of_lt h
    · exact le_of_eq h
  · rcases hall i with h | ⟨-, h⟩
    · exact absurd e (ne_of_gt h)
    · rw [toInt_col, toInt_col] at h
      exact_mod_cast h

/-! ## The kernel's two passes -/

/-- The kernel's row minimum. -/
theorem kLeast_apply (d : FVec Ideal S1024x1024 .f32) (p : Fin 1024) :
    kLeast d (ix1 p) = Finset.univ.fold min ⊤ fun k : Fin 1024 => d (ix2 p k) := by
  pointwise [kLeast]
  rw [inf_word]

/-- The kernel's float column numbers. -/
theorem place_apply (p k : Fin 1024) : k1_pay4 (F := Ideal) (ix2 p k) = ((k.val : ℝ) : EReal) := by
  pointwise [k1_pay4]
  show (((BitVec.ofNat 32 k.val).toInt : ℝ) : EReal) = _
  rw [toInt_col]; norm_cast

/-- The number of columns, as a float. -/
theorem word_1024 : Ideal.ofBits .f32 0x44800000#32 = ((1024 : ℝ) : EReal) := by
  simp [Ideal.ofBits, Ideal.ieee, -EReal.coe_mul]; norm_num

/-- The kernel's position is the first place where the row is least. -/
theorem kPos_first (d : FVec Ideal S1024x1024 .f32) (p k : Fin 1024) (h : IsFirst (fun i => d (ix2 p i)) k) :
    kPos d (ix1 p) = ((k.val : ℝ) : EReal) := by
  have hl : kLeast d (ix1 p) = d (ix2 p k) := by
    rw [kLeast_apply]
    exact le_antisymm ((Finset.fold_min_le _).2 (.inr ⟨k, Finset.mem_univ _, le_rfl⟩))
      ((Finset.le_fold_min _).2 ⟨le_top, fun i _ => h.1 i⟩)
  unfold kPos
  rw [kLeast_apply]
  pointwise [kSpread]
  rw [hl]
  refine le_antisymm ((Finset.fold_min_le _).2 (.inr ⟨k, Finset.mem_univ _, ?_⟩)) ((Finset.le_fold_min _).2 ⟨le_top, fun i _ => ?_⟩)
  · rw [if_pos rfl, place_apply]
  · split_ifs with e
    · rw [place_apply]
      exact_mod_cast h.2 i e
    · rw [word_1024]
      exact_mod_cast k.isLt.le

/-- The kernel's one-hot matrix at an entry. -/
theorem kHot_apply (f : FVec Ideal S1024 .f32) (p c : Fin 1024) :
    kHot f (ix2 p c) = if f (ix1 p) = ((c.val : ℝ) : EReal) then 1 else 0 := by
  pointwise [kHot, kHotI, kSpread]
  rw [place_apply]
  show (((BitVec.setWidth 32 (BitVec.ofBool (decide (((c.val : ℝ) : EReal) = f (ix1 p))))).toInt : ℝ) : EReal) = _
  by_cases e : f (ix1 p) = ((c.val : ℝ) : EReal)
  · rw [e, if_pos rfl, decide_eq_true rfl]; simp
  · rw [if_neg e, decide_eq_false (Ne.symm e)]; simp

/-- The reference's one-hot matrix at an entry. -/
theorem rHot_apply (i : IVec S1024 32) (p c : Fin 1024) :
    Ref.rHot (F := Ideal) i (ix2 p c) = if i (ix1 p) = BitVec.ofNat 32 c.val then 1 else 0 := by
  pointwise [Ref.rHot]
  show (((BitVec.ofBool (i (ix1 p) == BitVec.ofNat 32 c.val)).toNat : ℝ) : EReal) = _
  by_cases e : i (ix1 p) = BitVec.ofNat 32 c.val
  · simp [e]
  · simp [e]

/-- A column's number, converted to an integer. -/
theorem toInt_place (k : Fin 1024) : Ideal.fptosi 32 (((k.val : ℝ) : EReal)) = BitVec.ofNat 32 k.val := by
  have hk := k.isLt
  have h0 : (0 : ℝ) ≤ (k.val : ℝ) := by positivity
  rw [Ideal.fptosi, Ideal.toIntClamped_coe, if_pos h0, Int.floor_natCast]
  rw [min_eq_right (by norm_num; omega), max_eq_right (by norm_num)]
  rfl

/-- Columns with the same word are the same. -/
theorem col_inj {k c : Fin 1024} : BitVec.ofNat 32 k.val = BitVec.ofNat 32 c.val ↔ k = c := by
  constructor
  · intro h
    have := congrArg BitVec.toInt h
    rw [toInt_col, toInt_col] at this
    exact Fin.ext (by exact_mod_cast this)
  · rintro rfl; rfl

/-! ## The distances -/

/-- Every entry is a real number. -/
def IsReal {s : Shape} (a : s.Idx → EReal) : Prop := ∃ f : s.Idx → ℝ, ∀ i, a i = (f i : EReal)

/-- A sum of real numbers is one. -/
theorem coe_sum {ι : Type} (t : Finset ι) (f : ι → ℝ) : ((∑ i ∈ t, f i : ℝ) : EReal) = ∑ i ∈ t, (f i : EReal) := by
  classical
  induction t using Finset.induction_on with
  | empty => simp
  | insert a t h ih => rw [Finset.sum_insert h, Finset.sum_insert h, EReal.coe_add, ih]

/-- The reference's factor 2. -/
theorem word_two : Ideal.ofBits .f32 0x40000000#32 = ((2 : ℝ) : EReal) := by
  simp [Ideal.ofBits, Ideal.ieee, -EReal.coe_mul]; norm_num

/-- The kernel's factor -2. -/
theorem word_neg_two : Ideal.ofBits .f32 0xC0000000#32 = ((-2 : ℝ) : EReal) := by
  simp [Ideal.ofBits, Ideal.ieee, -EReal.coe_mul]; norm_num

/-- On real entries the two programs compute the same distances. -/
theorem dist_eq (r c : FVec Ideal S1024x256 .f32) (hr : IsReal r) (hc : IsReal c) : kDist r c = Ref.rDist r c := by
  obtain ⟨f, hf⟩ := hr
  obtain ⟨g, hg⟩ := hc
  funext j
  idx_vars j
  pointwise [kDist, kSpread, kNorm, Ref.rDist]
  simp only [hf, hg, word_two, word_neg_two, ← EReal.coe_mul, ← coe_sum, ← EReal.coe_add, ← EReal.coe_sub]
  refine congrArg _ ?_
  simp only [neg_mul, Finset.sum_neg_distrib, sub_eq_add_neg]

end Cert.Level
-- ==== Proof.RefRun.lean ====
module

public import proofs.«01_k».proof.Proof.RefValue

@[expose] public section

/-! The reference's run: its five results as functions of its arguments, and its arguments unchanged. -/

set_option maxRecDepth 16384

noncomputable section

namespace Cert.Ref

open Idealize.ShloMosaic Idealize.ShloMosaic.StableHlo Idealize.SL.Sem
open Cert.ReferenceIdeal Cert.ReferenceIdeal.Facts₀ Cert.ReferenceIdeal.Facts Cert.Lines

section Values

variable {F : FTy → Type} [FloatOps F]

/-- A layer's first product with its bias, cut off below zero: the encoder's hidden rows. -/
def rHid (x : FVec F S1024x32x256 .f32) (w1 : FVec F S8192x1024 .f32) (b1 : FVec F S1024 .f32) : FVec F S1024x1024 .f32 :=
  rRelu (addf (Host.dotGeneral dot_S1024x8192_S8192x1024_S1024x1024_1_0_0_1_n_n none
      (shapeCast S1024x8192 x shapeCasts_S1024x32x256_S1024x8192) w1)
    (broadcastInDim S1024x1024 ![0, 1] bcast_S1x1024_S1024x1024_0_1 (broadcastInDim S1x1024 ![1] bcast_S1024_S1x1024_1 b1)))

/-- The encoder. -/
def rEnc (x : FVec F S1024x32x256 .f32) (w1 : FVec F S8192x1024 .f32) (b1 : FVec F S1024 .f32) (w2 : FVec F S1024x256 .f32)
    (b2 : FVec F S256 .f32) : FVec F S1024x256 .f32 :=
  addf (Host.dotGeneral dot_S1024x1024_S1024x256_S1024x256_1_0_0_1_n_n none (rHid x w1 b1) w2)
    (broadcastInDim S1024x256 ![0, 1] bcast_S1x256_S1024x256_0_1 (broadcastInDim S1x256 ![1] bcast_S256_S1x256_1 b2))

/-- The rows passed on: the encoder's, plus what the sum of the rows taken differs from them. -/
def rPass (z q : FVec F S1024x256 .f32) : FVec F S1024x256 .f32 := addf z (subf q z)

/-- The decoder. -/
def rDec (q : FVec F S1024x256 .f32) (w1 : FVec F S256x1024 .f32) (b1 : FVec F S1024 .f32) (w2 : FVec F S1024x8192 .f32)
    (b2 : FVec F S8192 .f32) : FVec F S1024x32x256 .f32 :=
  shapeCast S1024x32x256 (addf (Host.dotGeneral dot_S1024x1024_S1024x8192_S1024x8192_1_0_0_1_n_n none
      (rRelu (addf (Host.dotGeneral dot_S1024x256_S256x1024_S1024x1024_1_0_0_1_n_n none q w1)
        (broadcastInDim S1024x1024 ![0, 1] bcast_S1x1024_S1024x1024_0_1
          (broadcastInDim S1x1024 ![1] bcast_S1024_S1x1024_1 b1)))) w2)
    (broadcastInDim S1024x8192 ![0, 1] bcast_S1x8192_S1024x8192_0_1 (broadcastInDim S1x8192 ![1] bcast_S8192_S1x8192_1 b2)))
    shapeCasts_S1024x8192_S1024x32x256

/-- The positions of the levels side by side. -/
def rCodes (i : Fin 8 → IVec S1024 32) : IVec S1024x8 32 :=
  let col : Fin 8 → IVec S1024x1 32 := fun l => broadcastInDim S1024x1 ![0] bcast_S1024_S1024x1_0 (i l)
  concatenate S1024x8 1 [⟨S1024x1, col 0⟩, ⟨S1024x1, col 1⟩, ⟨S1024x1, col 2⟩, ⟨S1024x1, col 3⟩, ⟨S1024x1, col 4⟩,
    ⟨S1024x1, col 5⟩, ⟨S1024x1, col 6⟩, ⟨S1024x1, col 7⟩]
    concatenates_S1024x1_S1024x1_S1024x1_S1024x1_S1024x1_S1024x1_S1024x1_S1024x1_S1024x8_d1

variable {W : Valuation τ sig (Elt F)}

/-- The sums, the residual and the positions after the first level. -/
theorem first_at {z : FVec F S1024x256 .f32} {X : FVec F S8x1024x256 .f32}
    (hX : rd W (.of main_arg9 : FRef S8x1024x256) = X) (hz : rd W (.of main_v9 : FRef S1024x256) = z)
    (h0 : rd W (.of main_v10 : FRef S1024x256) = (Stand.start z).zq) (h : lineEqs W firstOps) :
    At W (stand z X 1) (.of main_v17) (.of main_v16) (.of main_v14) (.of main_v15) ∧
      rd W main_call1.call0.v1_1 = codesAt z X 0 := by
  simp only [firstOps, lineEqs_append, lineEqs] at h
  obtain ⟨⟨e1, e2, -⟩, hl, e3, e4, e5, e6, e7, e8, -⟩ := h
  obtain ⟨i, q, lo, u⟩ := level_val hl
  have hc : rd W (.of main_v12 : FRef S1024x256) = cbAt X 0 := by rw [e2, e1, hX]; rfl
  rw [hc, hz] at i q lo u
  refine ⟨⟨?_, ?_, ?_, ?_⟩, i⟩
  · rw [e8, hz, show rd W (.of main_v13_0 : FRef S1024x256) = _ from q]; rfl
  · rw [e7, h0, show rd W (.of main_v13_0 : FRef S1024x256) = _ from q]; rfl
  · rw [e4, e3, show rd W (.of main_v13_2 : FRef S_) = _ from lo]; rfl
  · rw [e6, e5, show rd W (.of main_v13_3 : FRef S_) = _ from u]; rfl

/-- The encoder's rows, and the zeros that the sum of rows starts from. -/
theorem enc_val (h : lineEqs W encOps) :
    rd W (.of main_v9 : FRef S1024x256) = rEnc (rd W (.of main_arg0 : FRef S1024x32x256)) (rd W (.of main_arg1 : FRef S8192x1024))
      (rd W (.of main_arg2 : FRef S1024)) (rd W (.of main_arg3 : FRef S1024x256)) (rd W (.of main_arg4 : FRef S256)) ∧
    ∀ z : FVec F S1024x256 .f32, rd W (.of main_v10 : FRef S1024x256) = (Stand.start z).zq := by
  simp only [encOps, lineEqs_append, lineEqs] at h
  obtain ⟨⟨e1, e2, e3, e4, e5, -⟩, hr, e6, e7, e8, e9, e10, e11, -⟩ := h
  have er : rd W (.of main_v5 : FRef S1024x1024) = _ := relu_val hr
  constructor
  · rw [e9, e8, e7, e6, er, e5, e4, e3, e2, e1]; rfl
  · intro z; rw [e11, e10]; rfl

/-- The straight-through latents and the decoder's rows. -/
theorem dec_val (h : lineEqs W decOps) :
    rd W (.of main_v77 : FRef S1024x256) = rPass (rd W (.of main_v9 : FRef S1024x256)) (rd W (.of main_v65 : FRef S1024x256)) ∧
    rd W (.of main_v87 : FRef S1024x32x256) = rDec (rd W (.of main_v77 : FRef S1024x256)) (rd W (.of main_arg5 : FRef S256x1024))
      (rd W (.of main_arg6 : FRef S1024)) (rd W (.of main_arg7 : FRef S1024x8192)) (rd W (.of main_arg8 : FRef S8192)) := by
  simp only [decOps, lineEqs_append, lineEqs] at h
  obtain ⟨⟨e1, e2, e3, e4, e5, e6, -⟩, hr, e7, e8, e9, e10, e11, -⟩ := h
  have er : rd W (.of main_v82 : FRef S1024x1024) = _ := relu_val hr
  constructor
  · rw [e2, e1]; rfl
  · rw [e11, e10, e9, e8, e7, er, e6, e5, e4, e3]; rfl

/-- What the results are: functions of the encoder's rows, the codebooks and the decoder's weights. -/
theorem main_vals (h : lineEqs W mainOps) {z : FVec F S1024x256 .f32} {X : FVec F S8x1024x256 .f32}
    (hz : rEnc (rd W (.of main_arg0 : FRef S1024x32x256)) (rd W (.of main_arg1 : FRef S8192x1024))
      (rd W (.of main_arg2 : FRef S1024)) (rd W (.of main_arg3 : FRef S1024x256)) (rd W (.of main_arg4 : FRef S256)) = z)
    (hX : rd W (.of main_arg9 : FRef S8x1024x256) = X) :
    rd W (.of main_v87 : FRef S1024x32x256) = rDec (rPass z (stand z X 8).zq) (rd W (.of main_arg5 : FRef S256x1024))
      (rd W (.of main_arg6 : FRef S1024)) (rd W (.of main_arg7 : FRef S1024x8192)) (rd W (.of main_arg8 : FRef S8192)) ∧
    rd W (.of main_v75 : TRef sig ⟨S1024x8, .i32⟩) = rCodes (codesAt z X) ∧
    rd W (.of main_v63 : FRef S_) = (stand z X 8).ql ∧
    rd W (.of main_v64 : FRef S_) = (stand z X 8).us ∧
    rd W (.of main_v77 : FRef S1024x256) = rPass z (stand z X 8).zq := by
  simp only [mainOps, ops0, ops1, lineEqs_append] at h
  obtain ⟨⟨he, hf, g2, t2, g3, t3, g4, t4, g5, t5, g6, t6, g7⟩, t7, g8, t8, hc, hd⟩ := h
  obtain ⟨ez, e0⟩ := enc_val he
  rw [hz] at ez
  obtain ⟨s1, i0⟩ := first_at hX ez (e0 z) hf
  obtain ⟨s2, i1⟩ := level_at (l := 1) hX s1 g2 t2
  obtain ⟨s3, i2⟩ := level_at (l := 2) hX s2 g3 t3
  obtain ⟨s4, i3⟩ := level_at (l := 3) hX s3 g4 t4
  obtain ⟨s5, i4⟩ := level_at (l := 4) hX s4 g5 t5
  obtain ⟨s6, i5⟩ := level_at (l := 5) hX s5 g6 t6
  obtain ⟨s7, i6⟩ := level_at (l := 6) hX s6 g7 t7
  obtain ⟨s8, i7⟩ := level_at (l := 7) hX s7 g8 t8
  obtain ⟨d1, d2⟩ := dec_val hd
  have hp : rd W (.of main_v77 : FRef S1024x256) = rPass z (stand z X 8).zq := by rw [d1, ez, s8.zq]; rfl
  refine ⟨by rw [d2, hp], ?_, s8.ql, s8.us, hp⟩
  simp only [codeOps, lineEqs] at hc
  obtain ⟨c0, c1, c2, c3, c4, c5, c6, c7, c8, -⟩ := hc
  have b0 := c0.trans (congrArg _ i0)
  have b1 := c1.trans (congrArg _ i1)
  have b2 := c2.trans (congrArg _ i2)
  have b3 := c3.trans (congrArg _ i3)
  have b4 := c4.trans (congrArg _ i4)
  have b5 := c5.trans (congrArg _ i5)
  have b6 := c6.trans (congrArg _ i6)
  have b7 := c7.trans (congrArg _ i7)
  refine c8.trans ?_
  unfold rCodes
  exact congr (congr (congr (congr (congr (congr (congr (congrArg (fun (a b c d e f g k : IVec S1024x1 32) =>
    concatenate S1024x8 1 [⟨S1024x1, a⟩, ⟨S1024x1, b⟩, ⟨S1024x1, c⟩, ⟨S1024x1, d⟩, ⟨S1024x1, e⟩, ⟨S1024x1, f⟩,
      ⟨S1024x1, g⟩, ⟨S1024x1, k⟩]
      concatenates_S1024x1_S1024x1_S1024x1_S1024x1_S1024x1_S1024x1_S1024x1_S1024x1_S1024x8_d1) b0) b1) b2) b3) b4) b5) b6) b7

end Values

/-! ## The run -/

open Idealize.ShloMosaic (Ideal)

/-- The run ends with every equation of the program holding of what each device holds, the arguments unchanged and every
counter at zero. -/
theorem run_eqs (m : (ℓ : Loc nD τ sig) → Buf (Elt Ideal) ℓ) (g : Dev nD → PrngReg) :
    θ_run (defs (F := Ideal)) (onTc (τ := τ) (main (F := Ideal))) ⟨m, fun _ => 0, g⟩ fun r =>
      (∀ c : Dev nD, ∃ W : Valuation τ sig (Elt Ideal), lineEqs W mainOps ∧
        (∀ b : Ref sig .tc, r.2.mem ((c.tc : Thread nD τ).loc b) = W (Proc.devRef .tc b)) ∧
        ∀ b : Ref sig .tc, b.idx.val ≤ 9 → W (Proc.devRef .tc b) = m ((c.tc : Thread nD τ).loc b)) ∧
      r.2.sem = fun _ => 0 := by
  refine θ_run_mono (run_seq (by decide +kernel) (by decide +kernel) _ _ (fun _ => hlos mainOps) (fun d => main_line d)
    (fun _ => bufs_all _) m g (fun _ => fresh_all _)) fun r h => ⟨fun c => ?_, sem_eq_zero_of_no_sems (by decide +kernel) _⟩
  exact ⟨_, lineEqs_after main_ordered _, h c, fun b hb => keeps_low main_ordered _ b hb⟩

/-- The reference's arguments are unchanged and its counters at zero. -/
theorem frame (m : (ℓ : Loc nD τ sig) → Buf (Elt Ideal) ℓ) (g : Dev nD → PrngReg) :
    θ_run (defs (F := Ideal)) (onTc (τ := τ) (main (F := Ideal))) ⟨m, fun _ => 0, g⟩ fun r =>
      (∀ (c : Dev nD) (b : Ref sig .tc), b.idx.val ≤ 9 → r.2.mem ((c.tc : Thread nD τ).loc b) = m ((c.tc : Thread nD τ).loc b)) ∧
      r.2.sem = fun _ => 0 :=
  θ_run_mono (run_eqs m g) fun _ h => ⟨fun c b hb => by
    obtain ⟨W, -, h1, h2⟩ := h.1 c
    rw [h1, h2 b hb], h.2⟩

end Cert.Ref
-- ==== Proof.LevelEq.lean ====
module

public import proofs.«01_k».proof.Proof.Positions
public import proofs.«01_k».proof.Proof.RefRun
public import Idealize.ShloMosaic.Lib.Routing.Ops

@[expose] public section

/-! On real numbers the kernel's walk over the codebooks is the reference's. -/

set_option maxRecDepth 16384

noncomputable section

namespace Cert.Level

open Idealize.ShloMosaic
open Cert.KernelIdeal Cert.KernelIdeal.Gen Cert.KLevel

/-- Positions as the reference has them (`i`) and as the kernel has them (`p`): both name the columns `k`. -/
structure Names (i : IVec S1024 32) (p : FVec Ideal S1024 .f32) (k : Fin 1024 → Fin 1024) : Prop where
  ref : ∀ r, i (ix1 r) = BitVec.ofNat 32 (k r).val
  ker : ∀ r, p (ix1 r) = (((k r).val : ℝ) : EReal)

/-- A level's positions are the same in both. -/
theorem names (r c : FVec Ideal S1024x256 .f32) (hr : IsReal r) (hc : IsReal c) :
    ∃ k, Names (Ref.rIdx r c) (kAt r c) k := by
  choose k hk using argmin_first (Ref.rDist r c)
  refine ⟨k, fun a => (hk a).2, fun a => ?_⟩
  unfold kAt
  rw [dist_eq r c hr hc]
  exact kPos_first _ a (k a) (hk a).1

section Named

variable {i : IVec S1024 32} {p : FVec Ideal S1024 .f32} {k : Fin 1024 → Fin 1024} (h : Names i p k)
include h

/-- The kernel's one-hot matrix has its ones at the named columns. -/
theorem kHot_named (a c : Fin 1024) : kHot p (ix2 a c) = if k a = c then 1 else 0 := by
  rw [kHot_apply, h.ker]
  congr 1
  rw [EReal.coe_eq_coe_iff, Nat.cast_inj, Fin.val_inj]

/-- The reference's one-hot matrix has its ones at the named columns. -/
theorem rHot_named (a c : Fin 1024) : Ref.rHot (F := Ideal) i (ix2 a c) = if k a = c then 1 else 0 := by
  rw [rHot_apply, h.ref]
  congr 1
  rw [col_inj]

/-- A square of ones and zeros picks out rows. -/
theorem kPart_named (b : FVec Ideal S1024x256 .bf16) (a : Fin 1024) (x : Fin 256) :
    kPart (kHot p) b (ix2 a x) = b (ix2 (k a) x) := by
  pointwise [kPart]
  rw [Finset.sum_eq_single (k a)]
  · rw [kHot_named h, if_pos rfl, one_mul]
  · intro c _ hc
    rw [kHot_named h, if_neg (Ne.symm hc), zero_mul]
  · exact fun hc => absurd (Finset.mem_univ _) hc

/-- The reference's rows. -/
theorem take_named (c : FVec Ideal S1024x256 .f32) (a : Fin 1024) (x : Fin 256) :
    Ref.rTake c i (ix2 a x) = c (ix2 (k a) x) := by
  have hat : Ref.rAt i (ix2 a (0 : Fin 1)) = BitVec.ofNat 32 (k a).val := by
    pointwise [Ref.rAt]
    rw [h.ref, Scalar.select, if_neg]
    have h0 := toInt_col (k a)
    have h1 : ¬ (((k a).val : ℤ) < 0) := by omega
    rw [IntOp.cmpi]
    simp only [BitVec.slt, h0, BitVec.toInt_zero, h1, decide_false]
    decide
  have hin : IntOp.andi (IntOp.cmpi CmpIPredicate.sge (BitVec.ofNat 32 (k a).val) 0#32)
      (IntOp.cmpi CmpIPredicate.sle (BitVec.ofNat 32 (k a).val) 1023#32) = 1#1 := by
    have h0 := toInt_col (k a)
    have h1 := (k a).isLt
    have h2 : ((k a).val : ℤ) ≤ 1023 := by omega
    simp [IntOp.cmpi, IntOp.andi, BitVec.sle, h0, h2]
  pointwise [Ref.rTake]
  rw [Finset.univ_unique, Finset.fold_singleton, show (default : Fin 1) = 0 from rfl, hat, hin,
    show IntOp.andi (1#1) (1#1) = 1#1 from rfl]
  show Host.gather _ _ _ _ = _
  exact Routing.gather_row _ rfl rfl rfl rfl rfl c _ a x (k a) hat (by norm_num)

/-- The kernel's count of a column is the number of rows that name it. -/
theorem counts_named (c : Fin 1024) :
    kCount p (ix1 c) = ∑ a, (if k a = c then 1 else 0 : EReal) := by
  pointwise [kCount]
  simp only [kHot_named h]

/-- The reference's share of a column is that number over 1024. -/
theorem probs_named (c : Fin 1024) :
    Ref.rProbs (F := Ideal) i (ix1 c) = (∑ a, (if k a = c then 1 else 0 : EReal)) * (((1 / 1024 : ℝ)) : EReal) := by
  pointwise [Ref.rProbs]
  rw [word_1024, Ideal.div_coe (by norm_num)]
  simp only [rHot_named h]

end Named

/-- The kernel's rows are the reference's. -/
theorem rows_eq (r c : FVec Ideal S1024x256 .f32) (hr : IsReal r) (hc : IsReal c) :
    kRows r c = Ref.rTake c (Ref.rIdx r c) ∧ IsReal (Ref.rTake c (Ref.rIdx r c)) := by
  obtain ⟨k, hk⟩ := names r c hr hc
  obtain ⟨g, hg⟩ := hc
  constructor
  · funext j
    idx_vars j
    rw [take_named hk]
    unfold kRows
    rw [show ∀ (u v : FVec Ideal S1024x256 .f32) (j : S1024x256.Idx), addf u v j = u j + v j from fun _ _ _ => rfl,
      kPart_named hk, kPart_named hk]
    pointwise [kHi, kMid]
    rw [hg, ← EReal.coe_sub, sub_self, EReal.coe_zero, add_zero]
  · refine ⟨fun j => g (ix2 (k (j 0)) (j 1)), fun j => ?_⟩
    idx_vars j
    rw [take_named hk, hg]

/-- Differences of real entries are real. -/
theorem IsReal.sub {s : Shape} {a b : FVec Ideal s .f32} (ha : IsReal a) (hb : IsReal b) : IsReal (subf a b) := by
  obtain ⟨f, hf⟩ := ha
  obtain ⟨g, hg⟩ := hb
  exact ⟨fun i => f i - g i, fun i => by rw [EReal.coe_sub, ← hf, ← hg]; rfl⟩

/-- Sums of real entries are real. -/
theorem IsReal.add {s : Shape} {a b : FVec Ideal s .f32} (ha : IsReal a) (hb : IsReal b) : IsReal (addf a b) := by
  obtain ⟨f, hf⟩ := ha
  obtain ⟨g, hg⟩ := hb
  exact ⟨fun i => f i + g i, fun i => by rw [EReal.coe_add, ← hf, ← hg]; rfl⟩

end Cert.Level
-- ==== Proof.Losses.lean ====
module

public import proofs.«01_k».proof.Proof.LevelEq

@[expose] public section

/-! The two losses and the codes, on real numbers. -/

set_option maxRecDepth 16384

noncomputable section

namespace Cert.Level

open Idealize.ShloMosaic
open Cert.KernelIdeal Cert.KernelIdeal.Gen Cert.KLevel

/-! ## A level's losses -/

/-- The number of latents. -/
theorem word_262144 : Ideal.ofBits .f32 0x48800000#32 = ((262144 : ℝ) : EReal) := by
  simp [Ideal.ofBits, Ideal.ieee, -EReal.coe_mul]; norm_num

/-- The commitment weight, 1/4. -/
theorem word_quarter : Ideal.ofBits .f32 0x3E800000#32 = ((1 / 4 : ℝ) : EReal) := by
  simp [Ideal.ofBits, Ideal.ieee, -EReal.coe_mul]; norm_num

/-- The kernel's scale of its sum of squares, 1.25 / 262144. -/
theorem word_scale : Ideal.ofBits .f32 0x36A00000#32 = ((5 / 4 / 262144 : ℝ) : EReal) := by
  simp [Ideal.ofBits, Ideal.ieee, -EReal.coe_mul]; norm_num

/-- One over the number of rows. -/
theorem word_1024th : Ideal.ofBits .f32 0x3A800000#32 = ((1 / 1024 : ℝ) : EReal) := by
  simp [Ideal.ofBits, Ideal.ieee, -EReal.coe_mul]; norm_num

/-- The usage weight's float. -/
theorem word_usage : Ideal.ofBits .f32 0x3A83126F#32 = ((8589935 / 2 ^ 33 : ℝ) : EReal) := by
  simp [Ideal.ofBits, Ideal.ieee, -EReal.coe_mul]; norm_num

/-- The float added under the logarithm. -/
theorem word_small : Ideal.ofBits .f32 0x2EDBE6FF#32 = ((14411519 / 2 ^ 57 : ℝ) : EReal) := by
  simp [Ideal.ofBits, Ideal.ieee, -EReal.coe_mul]; norm_num

/-- A level's sum of squares, and the reference's loss by it. -/
theorem loss_eq (r q : FVec Ideal S1024x256 .f32) (hr : IsReal r) (hq : IsReal q) :
    ∃ s : ℝ, kSq r q = (s : EReal) ∧ ∀ j, Ref.rLoss r q j = ((5 / 4 / 262144 * s : ℝ) : EReal) := by
  obtain ⟨f, hf⟩ := hr.sub hq
  have hf' : ∀ a x, r (ix2 a x) - q (ix2 a x) = f (ix2 a x) := fun a x => hf (ix2 a x)
  have sq_eq : (∑ x, ∑ x_1, (r (ix2 x x_1) - q (ix2 x x_1)) * (r (ix2 x x_1) - q (ix2 x x_1))) =
      ((∑ a, ∑ x, f (ix2 a x) * f (ix2 a x) : ℝ) : EReal) := by
    simp only [hf', coe_sum, EReal.coe_mul]
  have hm : ∀ j, Ref.rMean r q j = (((∑ a, ∑ x, f (ix2 a x) * f (ix2 a x)) * (1 / 262144) : ℝ) : EReal) := fun j => by
    pointwise [Ref.rMean]
    rw [word_262144, Ideal.div_coe (by norm_num), EReal.coe_mul]
    refine congrArg (· * _) ?_
    exact sq_eq
  refine ⟨∑ a, ∑ x, f (ix2 a x) * f (ix2 a x), ?_, fun j => ?_⟩
  · pointwise [kSq]
    exact sq_eq
  · pointwise [Ref.rLoss]
    rw [hm, word_quarter, ← EReal.coe_mul, ← EReal.coe_add]
    congr 1
    ring

/-- A level's usage, without the factor in front. -/
def use (k : Fin 1024 → Fin 1024) (c : Fin 1024) : ℝ :=
  (∑ a, if k a = c then 1 else 0) * (1 / 1024) *
    Real.log ((∑ a, if k a = c then 1 else 0) * (1 / 1024) + 14411519 / 2 ^ 57)

/-- A position's share of the rows, times its logarithm. -/
theorem use_eq (k : Fin 1024 → Fin 1024) (c : Fin 1024) :
    (∑ a, (if k a = c then 1 else 0 : EReal)) * ((1 / 1024 : ℝ) : EReal) *
      Ideal.log ((∑ a, (if k a = c then 1 else 0 : EReal)) * ((1 / 1024 : ℝ) : EReal) + ((14411519 / 2 ^ 57 : ℝ) : EReal)) =
      (use k c : EReal) := by
  have hs : (∑ a, (if k a = c then 1 else 0 : EReal)) = ((∑ a, if k a = c then 1 else 0 : ℝ) : EReal) := by
    rw [coe_sum]
    refine Finset.sum_congr rfl fun a _ => ?_
    split_ifs <;> simp
  have h0 : (0 : ℝ) ≤ ∑ a, if k a = c then 1 else 0 := Finset.sum_nonneg fun a _ => by split_ifs <;> simp
  have h1 : ¬ ((∑ a, if k a = c then 1 else 0 : ℝ) * (1 / 1024) + 14411519 / 2 ^ 57 ≤ 0) := by
    have : (0 : ℝ) < (∑ a, if k a = c then 1 else 0) * (1 / 1024) + 14411519 / 2 ^ 57 := by positivity
    exact not_le.2 this
  rw [hs, ← EReal.coe_mul, ← EReal.coe_add, Ideal.log_coe, if_neg h1, ← EReal.coe_mul, use]

/-- The reference's usage term. -/
theorem rUsage_named {i : IVec S1024 32} {p : FVec Ideal S1024 .f32} {k : Fin 1024 → Fin 1024} (h : Names i p k) (j) :
    Ref.rUsage (F := Ideal) i j = ((8589935 / 2 ^ 33 * ∑ c, use k c : ℝ) : EReal) := by
  pointwise [Ref.rUsage]
  simp only [probs_named h, word_small, word_usage, use_eq]
  rw [← coe_sum, ← EReal.coe_mul]

/-- The counts' rows. -/
theorem kCounts_apply (p : Fin 8 → FVec Ideal S1024 .f32) (l : Fin 8) (c : Fin 1024) :
    kCounts p (ix2 l c) = kCount (p l) (ix1 c) := by
  fin_cases l <;> pointwise [kCounts]

/-- A square summed over both of its axes. -/
theorem sum_both (v : FVec Ideal S8x1024 .f32) :
    extractAt ![0, 0, 0] (shapeCast S1x1x1 (multiReduction .add [1, 2] S1
    (shapeCast S1x8x1024 v shapeCasts_S8x1024_S1x8x1024) 0x00000000#32
    reduces_S1x8x1024_S1 (.inl rfl) rfl) shapeCasts_S1_S1x1x1) inpos_S1x1x1_p0_0_0 = ∑ l : Fin 8, ∑ c : Fin 1024, v (ix2 l c) := by
  pointwise []

/-- What the kernel sums for its usage loss. -/
def kTerms (C D : FVec Ideal S8x1024 .f32) : FVec Ideal S8x1024 .f32 :=
  mulf (mulf C D) (log (addf (mulf C D) (broadcast S8x1024 (Scalar.ofBits .f32 0x2EDBE6FF#32))))

/-- One of these terms. -/
theorem kTerms_apply (C D : FVec Ideal S8x1024 .f32) (l : Fin 8) (c : Fin 1024) :
    kTerms C D (ix2 l c) = C (ix2 l c) * D (ix2 l c) *
      Ideal.log (C (ix2 l c) * D (ix2 l c) + Ideal.ofBits .f32 0x2EDBE6FF#32) := rfl

/-- The kernel's usage loss sums these terms over levels and columns. -/
theorem kUsage_sum (C D : FVec Ideal S8x1024 .f32) (j) :
    k1_pay1 C D j = Ideal.ofBits .f32 0x3A83126F#32 * ∑ l : Fin 8, ∑ c : Fin 1024, kTerms C D (ix2 l c) := by
  rw [← sum_both]
  rfl

/-- The kernel's usage loss. -/
theorem kUsage_named {i : Fin 8 → IVec S1024 32} {p : Fin 8 → FVec Ideal S1024 .f32} {k : Fin 8 → Fin 1024 → Fin 1024}
    (h : ∀ l, Names (i l) (p l) (k l)) (j) :
    k1_pay1 (kCounts p) (k1_pay92 (F := Ideal)) j = ((8589935 / 2 ^ 33 * ∑ l, ∑ c, use (k l) c : ℝ) : EReal) := by
  have h92 : ∀ (l : Fin 8) (c : Fin 1024), k1_pay92 (F := Ideal) (ix2 l c) = ((1 / 1024 : ℝ) : EReal) := fun l c => by
    pointwise [k1_pay92]
    exact word_1024th
  have hc : ∀ (l : Fin 8) (c : Fin 1024), kCounts p (ix2 l c) = ∑ a, (if k l a = c then 1 else 0 : EReal) := fun l c => by
    rw [kCounts_apply, counts_named (h l)]
  rw [kUsage_sum]
  simp only [kTerms_apply, hc, h92, word_small, word_usage, use_eq, ← coe_sum, ← EReal.coe_mul]

/-- The codes. -/
theorem codes_eq {i : Fin 8 → IVec S1024 32} {p : Fin 8 → FVec Ideal S1024 .f32} {k : Fin 8 → Fin 1024 → Fin 1024}
    (h : ∀ l, Names (i l) (p l) (k l)) : kCodes p = Ref.rCodes i := by
  have hk : ∀ (a : Fin 1024) (l : Fin 8), kCodes p (ix2 a l) = Ideal.fptosi 32 (p l (ix1 a)) := fun a l => by
    fin_cases l <;> pointwise [kCodes] <;> rfl
  have hr : ∀ (a : Fin 1024) (l : Fin 8), Ref.rCodes i (ix2 a l) = i l (ix1 a) := fun a l => by
    fin_cases l <;> pointwise [Ref.rCodes]
  funext j
  idx_vars j
  rw [hk, hr, (h _).ref, (h _).ker, toInt_place]

end Cert.Level
-- ==== Proof.Walk.lean ====
module

public import proofs.«01_k».proof.Proof.Losses

@[expose] public section

/-! The quantiser's four results are the reference's, when the encoder's rows and the codebooks are real numbers. -/

set_option maxRecDepth 16384

noncomputable section

namespace Cert.Level

open Idealize.ShloMosaic
open Cert.KernelIdeal Cert.KernelIdeal.Gen Cert.KLevel

/-- An array whose every entry is a real number. -/
theorem IsReal.of {s : Shape} {a : FVec Ideal s .f32} (h : ∀ i, ∃ r : ℝ, a i = (r : EReal)) : IsReal a := by
  choose f hf using h
  exact ⟨f, hf⟩

/-- An entry of such an array. -/
theorem IsReal.at {s : Shape} {a : FVec Ideal s .f32} (h : IsReal a) (i : s.Idx) : ∃ r : ℝ, a i = (r : EReal) := by
  obtain ⟨f, hf⟩ := h
  exact ⟨f i, hf i⟩

/-- A codebook of real numbers is one. -/
theorem book_real {X : FVec Ideal S8x1024x256 .f32} (h : IsReal X) (l : Fin 8) : IsReal (Ref.cbAt X l) :=
  .of fun _ => h.at _

/-- The encoder's rows are real numbers when its arguments are. -/
theorem enc_real {x : FVec Ideal S1024x32x256 .f32} {w1 : FVec Ideal S8192x1024 .f32} {b1 : FVec Ideal S1024 .f32}
    {w2 : FVec Ideal S1024x256 .f32} {b2 : FVec Ideal S256 .f32} (hx : IsReal x) (hw1 : IsReal w1) (hb1 : IsReal b1)
    (hw2 : IsReal w2) (hb2 : IsReal b2) : IsReal (Ref.rEnc x w1 b1 w2 b2) := by
  obtain ⟨fx, hx⟩ := hx
  obtain ⟨fw1, hw1⟩ := hw1
  obtain ⟨fb1, hb1⟩ := hb1
  obtain ⟨fw2, hw2⟩ := hw2
  obtain ⟨fb2, hb2⟩ := hb2
  refine .of fun j => ?_
  idx_vars j
  pointwise [Ref.rEnc, Ref.rHid, Ref.rRelu]
  simp only [hx, hw1, hb1, hw2, hb2, ← EReal.coe_mul, ← coe_sum, ← EReal.coe_add, ← EReal.coe_zero,
    ← EReal.coe_strictMono.monotone.map_max]
  exact ⟨_, rfl⟩

section Walk

variable {z : FVec Ideal S1024x256 .f32} {X : FVec Ideal S8x1024x256 .f32} (hz : IsReal z) (hX : IsReal X)
include hz hX

/-- After `n` levels the two programs stand at the same place. -/
theorem walk (n : ℕ) :
    (kstand z X n).res = (Ref.stand z X n).res ∧ IsReal (Ref.stand z X n).res ∧
    (kstand z X n).zq = (Ref.stand z X n).zq ∧ IsReal (Ref.stand z X n).zq ∧
    ∃ s : ℝ, (kstand z X n).sq = (s : EReal) ∧ ∀ j, (Ref.stand z X n).ql j = ((5 / 4 / 262144 * s : ℝ) : EReal) := by
  induction n with
  | zero =>
    have h0 : ∀ w : EReal, w = Ideal.ofBits .f32 0x00000000#32 → w = ((0 : ℝ) : EReal) := fun w h => by
      rw [h]; simp [Ideal.ofBits, Ideal.ieee]
    refine ⟨rfl, hz, rfl, .of fun j => ⟨0, h0 _ rfl⟩, 0, h0 _ rfl, fun j => ?_⟩
    rw [mul_zero]
    exact h0 _ rfl
  | succ n ih =>
    obtain ⟨er, hr, eq, hq, s, es, hs⟩ := ih
    have hc := book_real hX (Fin.ofNat 8 n)
    obtain ⟨e, ht⟩ := rows_eq _ _ hr hc
    obtain ⟨s', es', hs'⟩ := loss_eq _ _ hr ht
    simp only [kstand, Ref.stand, KStand.next, Ref.Stand.next]
    rw [er, eq, e]
    refine ⟨rfl, hr.sub ht, rfl, hq.add ht, s + s', ?_, fun j => ?_⟩
    · rw [es', es, EReal.coe_add]; rfl
    · rw [mul_add, EReal.coe_add, ← hs j, ← hs' j]; rfl

/-- Each level's positions are the same in both. -/
theorem walk_names : ∃ k : Fin 8 → Fin 1024 → Fin 1024, ∀ l, Names (Ref.codesAt z X l) (kposAt z X l) (k l) := by
  have h : ∀ l : Fin 8, ∃ k, Names (Ref.codesAt z X l) (kposAt z X l) k := fun l => by
    obtain ⟨er, hr, -⟩ := walk hz hX l.val
    unfold Ref.codesAt kposAt
    rw [er]
    exact names _ _ hr (book_real hX l)
  choose k hk using h
  exact ⟨k, hk⟩

/-- The sum of the rows taken is what the reference passes on. -/
theorem zq_eq : out1_2 (F := Ideal) z X = Ref.rPass z (Ref.stand z X 8).zq := by
  obtain ⟨-, -, eq, hq, -⟩ := walk hz hX 8
  rw [out_zq, eq]
  obtain ⟨f, hf⟩ := hz
  obtain ⟨g, hg⟩ := hq
  funext j
  show _ = z j + ((Ref.stand z X 8).zq j - z j)
  rw [hf, hg, ← EReal.coe_sub, ← EReal.coe_add]
  congr 1
  ring

/-- The codes. -/
theorem out_codes_eq : out1_3 (F := Ideal) z X = Ref.rCodes (Ref.codesAt z X) := by
  obtain ⟨k, hk⟩ := walk_names hz hX
  rw [out_codes, codes_eq hk]

/-- The quantisation loss. -/
theorem out_loss_eq : (shapeCast S_ (out1_4 (F := Ideal) z X) shapeCasts_S1x1_S_ : FVec Ideal S_ .f32) = (Ref.stand z X 8).ql := by
  obtain ⟨-, -, -, -, s, es, hs⟩ := walk hz hX 8
  funext j
  rw [hs, EReal.coe_mul, ← es, ← word_scale, out_loss]
  rfl

/-- The reference's usage loss, level by level. -/
theorem us_sum (j) : (Ref.stand z X 8).us j = ∑ l, Ref.rUsage (F := Ideal) (Ref.codesAt z X l) j := by
  rw [Fin.sum_univ_eight]
  have h : (Ref.stand z X 8).us j = Ideal.ofBits .f32 0x00000000#32 + Ref.rUsage (F := Ideal) (Ref.codesAt z X 0) j +
    Ref.rUsage (F := Ideal) (Ref.codesAt z X 1) j + Ref.rUsage (F := Ideal) (Ref.codesAt z X 2) j +
    Ref.rUsage (F := Ideal) (Ref.codesAt z X 3) j + Ref.rUsage (F := Ideal) (Ref.codesAt z X 4) j +
    Ref.rUsage (F := Ideal) (Ref.codesAt z X 5) j + Ref.rUsage (F := Ideal) (Ref.codesAt z X 6) j +
    Ref.rUsage (F := Ideal) (Ref.codesAt z X 7) j := rfl
  rw [h, Ideal.ofBits_zero_f32, zero_add]

/-- The usage loss. -/
theorem out_usage_eq : (shapeCast S_ (out1_5 (F := Ideal) z X) shapeCasts_S1x1_S_ : FVec Ideal S_ .f32) = (Ref.stand z X 8).us := by
  obtain ⟨k, hk⟩ := walk_names hz hX
  funext j
  rw [us_sum hz hX, out_usage]
  show k1_pay1 (kCounts (kposAt z X)) k1_pay92 _ = _
  rw [kUsage_named hk]
  simp only [rUsage_named (hk _)]
  rw [← coe_sum, Finset.mul_sum]

end Walk

end Cert.Level
-- ==== Proof.Finite.lean ====
module

public import proofs.«01_k».proof.Pre_finite
public import proofs.«01_k».proof.Proof.Walk
public import Idealize.ShloMosaic.Lib.ReduceAll

@[expose] public section

/-! What the precondition says: the arguments it names hold real numbers. -/

set_option maxRecDepth 16384

noncomputable section

namespace Cert.Finite

open Idealize.ShloMosaic
open Cert.Pre_finite Cert.Level

/-- The side conditions of the precondition's operations. -/
theorem facts : Cert.Pre_finite.Facts where
  bcast_S_S1024x32x256 := by decide
  reducesTo_S1024x32x256_S_d0_1_2 := by decide
  h_S_ := by decide
  bcast_S_S8192x1024 := by decide
  reducesTo_S8192x1024_S_d0_1 := by decide
  bcast_S_S1024 := by decide
  reducesTo_S1024_S_d0 := by decide
  bcast_S_S1024x256 := by decide
  reducesTo_S1024x256_S_d0_1 := by decide
  bcast_S_S256 := by decide
  reducesTo_S256_S_d0 := by decide
  bcast_S_S8x1024x256 := by decide
  reducesTo_S8x1024x256_S_d0_1_2 := by decide

/-- A scalar has one index. -/
instance : Subsingleton S_.Idx := ⟨fun a b => funext fun k => k.elim0⟩

/-- The one bit that says every entry of `a` is below infinity in absolute value. -/
abbrev below {s : Shape} {axes : List (Fin s.rank)} (a : FVec Ideal s .f32) (hb : S_.BroadcastsInDim s (![] : Fin 0 → Fin s.rank))
    (hr : s.ReducesTo axes S_) (h0 : 0 < S_.numel) : IVec S_ 1 :=
  Host.reduce IntOp.andi (cmpf .olt (Host.absf a) (broadcastInDim s ![] hb (constant (F := Ideal) S_ .f32 0x7F800000#32)))
    (constantI S_ 1 1#1) hr h0

/-- An extended real below infinity in absolute value is a real number. -/
theorem real_of_abs {x : EReal} (h : max x (-x) < ⊤) : ∃ r : ℝ, x = (r : EReal) := by
  obtain ⟨h1, h2⟩ := max_lt_iff.1 h
  refine ⟨x.toReal, (EReal.coe_toReal h1.ne fun e => ?_).symm⟩
  rw [e, EReal.neg_bot] at h2
  exact lt_irrefl _ h2

/-- When that bit is set the entries of `a` are real numbers. -/
theorem below_real {s : Shape} {axes : List (Fin s.rank)} {a : FVec Ideal s .f32}
    {hb : S_.BroadcastsInDim s (![] : Fin 0 → Fin s.rank)} {hr : s.ReducesTo axes S_} {h0 : 0 < S_.numel} {j : S_.Idx}
    (h : below a hb hr h0 j = 1#1) : IsReal a := by
  refine .of fun i => real_of_abs ?_
  have hi := Host.reduce_andi_all _ _ hr h0 j h i
  change BitVec.ofBool (decide (max (a i) (-(a i)) < Ideal.ofBits .f32 0x7F800000#32)) = 1#1 at hi
  rw [inf_word] at hi
  by_contra hn
  rw [decide_eq_false hn] at hi
  exact absurd hi (by decide)

/-- The precondition makes the encoder's five arguments and the codebooks arrays of real numbers. -/
theorem real_args [Cert.Pre_finite.Facts] {a0 : FVec Ideal S1024x32x256 .f32} {a1 : FVec Ideal S8192x1024 .f32} {a2 : FVec Ideal S1024 .f32}
    {a3 : FVec Ideal S1024x256 .f32} {a4 : FVec Ideal S256 .f32} {a5 : FVec Ideal S256x1024 .f32} {a6 : FVec Ideal S1024 .f32}
    {a7 : FVec Ideal S1024x8192 .f32} {a8 : FVec Ideal S8192 .f32} {a9 : FVec Ideal S8x1024x256 .f32}
    (h : Cert.Pre_finite.fn (F := Ideal) a0 a1 a2 a3 a4 a5 a6 a7 a8 a9 = fun _ => 1#1) :
    IsReal a0 ∧ IsReal a1 ∧ IsReal a2 ∧ IsReal a3 ∧ IsReal a4 ∧ IsReal a9 := by
  have hj := congrFun h (Shape.Idx.first Facts.h_S_)
  obtain ⟨hj, h9⟩ := IntOp.andi_eq_one.1 hj
  obtain ⟨hj, h4⟩ := IntOp.andi_eq_one.1 hj
  obtain ⟨hj, h3⟩ := IntOp.andi_eq_one.1 hj
  obtain ⟨hj, h2⟩ := IntOp.andi_eq_one.1 hj
  obtain ⟨h0, h1⟩ := IntOp.andi_eq_one.1 hj
  exact ⟨below_real h0, below_real h1, below_real h2, below_real h3, below_real h4, below_real h9⟩

end Cert.Finite
-- ==== Proof.Tiles.lean ====
module

public import proofs.«01_k».proof.Proof.Gen.KernelIdeal.Frame
public import proofs.«01_k».proof.Proof.RefRun
public import Idealize.ShloMosaic.Lib.Pointwise
public import Idealize.ShloMosaic.Lib.Pipeline.ValueKit

@[expose] public section

/-! What the encoder's and the decoder's tiles leave in their arrays, and what the quantiser leaves in its four. -/

set_option maxRecDepth 16384

noncomputable section

namespace Cert.Tiles

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The encoder's blocks: tile `t` of the rows in, all of the weights, tile `t` of the rows out. -/
theorem idx0 : ∀ t : Fin cfg0.N, win0_0.index t = ![t.val, 0, 0] ∧ win0_1.index t = ![0, 0] ∧ win0_2.index t = ![0, 0] ∧
    win0_3.index t = ![0, 0] ∧ win0_4.index t = ![0, 0] ∧ win0_5.index t = ![t.val, 0] :=
  (by decide +kernel : ∀ t : Fin grid0.N, _)

/-- An encoder tile's rows are the reference's. -/
theorem enc_point (c : Dev nD) (b1 : FVec Ideal S1024 .f32) (b2 : FVec Ideal S256 .f32)
    (h1 : V c main_call0_v0 = (fun i => b1 (ix1 (i 1)) : FVec Ideal S1x1024 .f32))
    (h2 : V c main_call0_v1 = (fun i => b2 (ix1 (i 1)) : FVec Ideal S1x256 .f32))
    (t : Fin cfg0.N) (y) :
    k0_pay1 (iblk0 V c 0 t) (iblk0 V c 1 t) (iblk0 V c 2 t) (iblk0 V c 3 t) (iblk0 V c 4 t) y =
      Ref.rEnc (V c main_arg0) (V c main_arg1) b1 (V c main_arg3) b2 (((cfg0.win 5).blk t).view.emb y) := by
  pointwise [k0_pay1, Ref.rEnc, Ref.rHid, Ref.rRelu]
  blk_point [iblk0, idx0 t]
  · rw [h1]; show b1 _ = b1 _; blk_ext [idx0 t]
  · rw [h2]; show b2 _ = b2 _; blk_ext [idx0 t]

/-- The encoder's array ends at the reference's rows. -/
theorem enc_final (c : Dev nD) (b1 : FVec Ideal S1024 .f32) (b2 : FVec Ideal S256 .f32)
    (h1 : V c main_call0_v0 = (fun i => b1 (ix1 (i 1)) : FVec Ideal S1x1024 .f32))
    (h2 : V c main_call0_v1 = (fun i => b2 (ix1 (i 1)) : FVec Ideal S1x256 .f32)) :
    (dat0 V c).arrAt 5 cfg0.N = Ref.rEnc (V c main_arg0) (V c main_arg1) b1 (V c main_arg3) b2 := by
  refine (dat0 V c).arrAt_eq_of_covers 5 _ (by decide +kernel) fun t _ y => ?_
  blk_simp
  rw [after0_5]
  frame_out
  exact enc_point V c b1 b2 h1 h2 t y

/-- The decoder's blocks: tile `t` of the rows in, all of the weights, tile `t` of the rows out. -/
theorem idx2 : ∀ t : Fin cfg2.N, win2_0.index t = ![t.val, 0] ∧ win2_1.index t = ![0, 0] ∧ win2_2.index t = ![0, 0] ∧
    win2_3.index t = ![0, 0] ∧ win2_4.index t = ![0, 0] ∧ win2_5.index t = ![t.val, 0, 0] :=
  (by decide +kernel : ∀ t : Fin grid2.N, _)

/-- A decoder tile's rows are the reference's. -/
theorem dec_point (c : Dev nD) (b1 : FVec Ideal S1024 .f32) (b2 : FVec Ideal S8192 .f32)
    (h1 : V c main_call0_v4 = (fun i => b1 (ix1 (i 1)) : FVec Ideal S1x1024 .f32))
    (h2 : V c main_call0_v5 = (fun i => b2 (ix1 (i 1)) : FVec Ideal S1x8192 .f32))
    (t : Fin cfg2.N) (y) :
    k2_pay1 (iblk2 V c 0 t) (iblk2 V c 1 t) (iblk2 V c 2 t) (iblk2 V c 3 t) (iblk2 V c 4 t) y =
      Ref.rDec (V c main_v0_4) (V c main_arg5) b1 (V c main_arg7) b2 (((cfg2.win 5).blk t).view.emb y) := by
  pointwise [k2_pay1, Ref.rDec, Ref.rRelu]
  blk_point [iblk2, idx2 t]
  · rw [h1]; show b1 _ = b1 _; blk_ext [idx2 t]
  · rw [h2]; show b2 _ = b2 _; blk_ext [idx2 t]

/-- The decoder's array ends at the reference's rows. -/
theorem dec_final (c : Dev nD) (b1 : FVec Ideal S1024 .f32) (b2 : FVec Ideal S8192 .f32)
    (h1 : V c main_call0_v4 = (fun i => b1 (ix1 (i 1)) : FVec Ideal S1x1024 .f32))
    (h2 : V c main_call0_v5 = (fun i => b2 (ix1 (i 1)) : FVec Ideal S1x8192 .f32)) :
    (dat2 V c).arrAt 5 cfg2.N = Ref.rDec (V c main_v0_4) (V c main_arg5) b1 (V c main_arg7) b2 := by
  refine (dat2 V c).arrAt_eq_of_covers 5 _ (by decide +kernel) fun t _ y => ?_
  blk_simp
  rw [after2_5]
  frame_out
  exact dec_point V c b1 b2 h1 h2 t y

/-- The quantiser's blocks are its whole arrays. -/
theorem idx1 : ∀ t : Fin cfg1.N, win1_0.index t = ![0, 0] ∧ win1_1.index t = ![0, 0, 0] ∧ win1_2.index t = ![0, 0] ∧
    win1_3.index t = ![0, 0] ∧ win1_4.index t = ![0, 0] ∧ win1_5.index t = ![0, 0] :=
  (by decide +kernel : ∀ t : Fin grid1.N, _)

/-- The quantiser's first block is the encoder's whole array. -/
theorem vq_in0 (c : Dev nD) (t : Fin cfg1.N) : iblk1 V c 0 t = V c main_call0_v2 := by
  funext y
  blk_ext [iblk1, idx1 t]

/-- The quantiser's second block is the whole stack of codebooks. -/
theorem vq_in1 (c : Dev nD) (t : Fin cfg1.N) : iblk1 V c 1 t = V c main_arg9 := by
  funext y
  blk_ext [iblk1, idx1 t]

/-- The sum of the rows taken. -/
theorem vq_final2 (c : Dev nD) : (dat1 V c).arrAt 2 cfg1.N = out1_2 (V c main_call0_v2) (V c main_arg9) := by
  refine (dat1 V c).arrAt_eq_of_covers 2 _ (by decide +kernel) fun t _ y => ?_
  blk_simp
  rw [after1_2, vq_in0, vq_in1]
  refine congrArg (out1_2 (V c main_call0_v2) (V c main_arg9)) ?_
  blk_ext [idx1 t]

/-- The codes. -/
theorem vq_final3 (c : Dev nD) : (dat1 V c).arrAt 3 cfg1.N = out1_3 (V c main_call0_v2) (V c main_arg9) := by
  refine (dat1 V c).arrAt_eq_of_covers 3 _ (by decide +kernel) fun t _ y => ?_
  blk_simp
  rw [after1_3, vq_in0, vq_in1]
  refine congrArg (out1_3 (V c main_call0_v2) (V c main_arg9)) ?_
  blk_ext [idx1 t]

/-- The quantisation loss. -/
theorem vq_final4 (c : Dev nD) : (dat1 V c).arrAt 4 cfg1.N = out1_4 (V c main_call0_v2) (V c main_arg9) := by
  refine (dat1 V c).arrAt_eq_of_covers 4 _ (by decide +kernel) fun t _ y => ?_
  blk_simp
  rw [after1_4, vq_in0, vq_in1]
  refine congrArg (out1_4 (V c main_call0_v2) (V c main_arg9)) ?_
  blk_ext [idx1 t]

/-- The usage loss. -/
theorem vq_final5 (c : Dev nD) : (dat1 V c).arrAt 5 cfg1.N = out1_5 (V c main_call0_v2) (V c main_arg9) := by
  refine (dat1 V c).arrAt_eq_of_covers 5 _ (by decide +kernel) fun t _ y => ?_
  blk_simp
  rw [after1_5, vq_in0, vq_in1]
  refine congrArg (out1_5 (V c main_call0_v2) (V c main_arg9)) ?_
  blk_ext [idx1 t]

end Cert.Tiles
-- ==== Proof.KRun.lean ====
module

public import proofs.«01_k».proof.Proof.Tiles
public import proofs.«01_k».proof.Proof.KLevel
public import Idealize.ShloMosaic.Lib.Claim

@[expose] public section

/-! The kernel's run: its five results as functions of its arguments. -/

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## What the results hold at the end -/

section Values

variable (m : (ℓ : Loc nD τ sig) → Buf (Elt Ideal) ℓ) (ρ : Dev nD → PrngReg) (c : Dev nD)

/-- An argument at launch. -/
abbrev arg (m : (ℓ : Loc nD τ sig) → Buf (Elt Ideal) ℓ) (c : Dev nD) (a : Ref sig .tc) : Buf (Elt Ideal) ((c : Thread nD τ).loc a) :=
  m ((c : Thread nD τ).loc a)

/-- The encoder's rows. -/
abbrev enc : FVec Ideal S1024x256 .f32 :=
  Ref.rEnc (arg m c main_arg0) (arg m c main_arg1) (arg m c main_arg2) (arg m c main_arg3) (arg m c main_arg4)

/-- The hidden layer's bias as a row. -/
theorem row1024 (b : FVec Ideal S1024 .f32) :
    shapeCast S1x1024 b shapeCasts_S1024_S1x1024 = fun i => b (ix1 (i 1)) := by
  funext j
  idx_vars j
  pointwise []

/-- The latents' bias as a row. -/
theorem row256 (b : FVec Ideal S256 .f32) (h : S256.ShapeCasts S1x256) :
    shapeCast S1x256 b h = fun i => b (ix1 (i 1)) := by
  funext j
  idx_vars j
  pointwise []

/-- The decoder's last bias as a row. -/
theorem row8192 (b : FVec Ideal S8192 .f32) (h : S8192.ShapeCasts S1x8192) :
    shapeCast S1x8192 b h = fun i => b (ix1 (i 1)) := by
  funext j
  idx_vars j
  pointwise []

/-- What the encoder's first bias window reads. -/
theorem bias1 : V1 m ρ c main_call0_v0 =
    (fun i => (arg m c main_arg2 : FVec Ideal S1024 .f32) (ix1 (i 1)) : FVec Ideal S1x1024 .f32) := by
  show StableHlo.after hostOps0 (W0 m ρ c) (Proc.devRef .tc main_call0_v0) = _
  entry_read
  exact row1024 _

/-- What the encoder's second bias window reads. -/
theorem bias2 : V1 m ρ c main_call0_v1 =
    (fun i => (arg m c main_arg4 : FVec Ideal S256 .f32) (ix1 (i 1)) : FVec Ideal S1x256 .f32) := by
  show StableHlo.after hostOps0 (W0 m ρ c) (Proc.devRef .tc main_call0_v1) = _
  entry_read
  exact row256 _ _

/-- The encoder leaves its rows. -/
theorem enc_val : W2 m ρ c (Proc.devRef .tc main_call0_v2) = enc m c := by
  refine (W2_arr m ρ c 5).trans ((Tiles.enc_final (V1 m ρ) c (arg m c main_arg2) (arg m c main_arg4)
    (bias1 m ρ c) (bias2 m ρ c)).trans ?_)
  have e0 : V1 m ρ c main_arg0 = arg m c main_arg0 := W1_args m ρ c _ (by decide)
  have e1 : V1 m ρ c main_arg1 = arg m c main_arg1 := W1_args m ρ c _ (by decide)
  have e3 : V1 m ρ c main_arg3 = arg m c main_arg3 := W1_args m ρ c _ (by decide)
  rw [e0, e1, e3]

/-- The quantiser reads the codebooks as they were. -/
theorem books : V2 m ρ c main_arg9 = arg m c main_arg9 := W2_args m ρ c _ (by decide)

/-- The quantiser leaves the sum of the rows taken, -/
theorem zq_val : W3 m ρ c (Proc.devRef .tc main_v0_4) = out1_2 (enc m c) (arg m c main_arg9) := by
  refine (W3_arr m ρ c 2).trans ((Tiles.vq_final2 (V2 m ρ) c).trans ?_)
  rw [show V2 m ρ c main_call0_v2 = enc m c from enc_val m ρ c, books]

/-- the codes, -/
theorem codes_val : W3 m ρ c (Proc.devRef .tc main_v0_1) = out1_3 (enc m c) (arg m c main_arg9) := by
  refine (W3_arr m ρ c 3).trans ((Tiles.vq_final3 (V2 m ρ) c).trans ?_)
  rw [show V2 m ρ c main_call0_v2 = enc m c from enc_val m ρ c, books]

/-- the quantisation loss -/
theorem loss_val : W3 m ρ c (Proc.devRef .tc main_call0_v3_2) = out1_4 (enc m c) (arg m c main_arg9) := by
  refine (W3_arr m ρ c 4).trans ((Tiles.vq_final4 (V2 m ρ) c).trans ?_)
  rw [show V2 m ρ c main_call0_v2 = enc m c from enc_val m ρ c, books]

/-- and the usage loss. -/
theorem usage_val : W3 m ρ c (Proc.devRef .tc main_call0_v3_3) = out1_5 (enc m c) (arg m c main_arg9) := by
  refine (W3_arr m ρ c 5).trans ((Tiles.vq_final5 (V2 m ρ) c).trans ?_)
  rw [show V2 m ρ c main_call0_v2 = enc m c from enc_val m ρ c, books]

/-- What the decoder's first bias window reads. -/
theorem bias3 : V4 m ρ c main_call0_v4 =
    (fun i => (arg m c main_arg6 : FVec Ideal S1024 .f32) (ix1 (i 1)) : FVec Ideal S1x1024 .f32) := by
  show StableHlo.after hostOps2 (W3 m ρ c) (Proc.devRef .tc main_call0_v4) = _
  entry_read
  rw [W3_args m ρ c main_arg6 (by decide)]
  exact row1024 _

/-- What the decoder's second bias window reads. -/
theorem bias4 : V4 m ρ c main_call0_v5 =
    (fun i => (arg m c main_arg8 : FVec Ideal S8192 .f32) (ix1 (i 1)) : FVec Ideal S1x8192 .f32) := by
  show StableHlo.after hostOps2 (W3 m ρ c) (Proc.devRef .tc main_call0_v5) = _
  entry_read
  rw [W3_args m ρ c main_arg8 (by decide)]
  exact row8192 _ _

/-- The decoder reads the sum of the rows as the quantiser left it. -/
theorem zq_kept : V4 m ρ c main_v0_4 = out1_2 (enc m c) (arg m c main_arg9) :=
  (W4_of m ρ c main_v0_4 (by decide)).trans (zq_val m ρ c)

/-- Result 1: the decoder's rows. -/
theorem result0 : W6 m ρ c (Proc.devRef .tc main_v0_0) =
    Ref.rDec (out1_2 (enc m c) (arg m c main_arg9)) (arg m c main_arg5) (arg m c main_arg6) (arg m c main_arg7) (arg m c main_arg8) := by
  refine (W6_of m ρ c main_v0_0 (by decide)).trans ((W5_arr m ρ c 5).trans ((Tiles.dec_final (V4 m ρ) c (arg m c main_arg6)
    (arg m c main_arg8) (bias3 m ρ c) (bias4 m ρ c)).trans ?_))
  have e5 : V4 m ρ c main_arg5 = arg m c main_arg5 := W4_args m ρ c _ (by decide)
  have e7 : V4 m ρ c main_arg7 = arg m c main_arg7 := W4_args m ρ c _ (by decide)
  rw [zq_kept, e5, e7]

/-- Result 2: the codes. -/
theorem result1 : W6 m ρ c (Proc.devRef .tc main_v0_1) = out1_3 (enc m c) (arg m c main_arg9) :=
  (W6_of m ρ c main_v0_1 (by decide)).trans ((W5_of m ρ c main_v0_1 (by decide)).trans
    ((W4_of m ρ c main_v0_1 (by decide)).trans (codes_val m ρ c)))

/-- Result 3: the quantisation loss. -/
theorem result2 : W6 m ρ c (Proc.devRef .tc main_v0_2) =
    (shapeCast S_ (out1_4 (enc m c) (arg m c main_arg9)) shapeCasts_S1x1_S_ : FVec Ideal S_ .f32) := by
  show StableHlo.after hostOps3 (W5 m ρ c) (Proc.devRef .tc main_v0_2) = _
  entry_read
  rw [W5_of m ρ c main_call0_v3_2 (by decide), W4_of m ρ c main_call0_v3_2 (by decide), loss_val]
  rfl

/-- Result 4: the usage loss. -/
theorem result3 : W6 m ρ c (Proc.devRef .tc main_v0_3) =
    (shapeCast S_ (out1_5 (enc m c) (arg m c main_arg9)) shapeCasts_S1x1_S_ : FVec Ideal S_ .f32) := by
  show StableHlo.after hostOps3 (W5 m ρ c) (Proc.devRef .tc main_v0_3) = _
  entry_read
  rw [W5_of m ρ c main_call0_v3_3 (by decide), W4_of m ρ c main_call0_v3_3 (by decide), usage_val]
  rfl

/-- Result 5: the sum of the rows taken. -/
theorem result4 : W6 m ρ c (Proc.devRef .tc main_v0_4) = out1_2 (enc m c) (arg m c main_arg9) :=
  (W6_of m ρ c main_v0_4 (by decide)).trans ((W5_of m ρ c main_v0_4 (by decide)).trans (zq_kept m ρ c))

end Values

/-! ## The run -/

variable {F : FTy → Type} [FloatOps F]
variable (m : (ℓ : Loc nD τ sig) → Buf (Elt F) ℓ) (ρ : Dev nD → PrngReg)

set_option backward.isDefEq.respectTransparency.types false in
/-- Every execution ends, with every buffer outside the kernels' own holding what the segments leave in it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Cert.KRun
-- ==== Proof.Agree.lean ====
module

public import proofs.«01_k».proof.Defs
public import proofs.«01_k».proof.Proof.Finite
public import proofs.«01_k».proof.Proof.KRun
public import proofs.«01_k».proof.Proof.RefRun

@[expose] public section

/-! The kernel and the reference, run from equal arguments that the precondition admits, end with equal results. -/

set_option maxRecDepth 16384

noncomputable section

namespace Cert.Agree

open Idealize.ShloMosaic Idealize.SL.Sem
open Cert.KRun

/-- The final position of the reference's quantiser for a device's arguments in the kernel's memory. -/
abbrev fin (m : (ℓ : Loc Cert.KernelIdeal.nD Cert.KernelIdeal.τ Cert.KernelIdeal.sig) → Buf (Elt Ideal) ℓ) (c : Dev Cert.KernelIdeal.nD) :=
  Ref.stand (enc m c) (arg m c Cert.KernelIdeal.main_arg9) 8

section Kernel

open Cert.KernelIdeal Cert.KernelIdeal.Gen

/-- The kernel ends with the reference's five results and its arguments unchanged. -/
theorem kernel_vals (m : (ℓ : Loc nD τ sig) → Buf (Elt Ideal) ℓ) (g : Dev nD → PrngReg)
    (hz : ∀ c, Level.IsReal (enc m c)) (hX : ∀ c, Level.IsReal (arg m c main_arg9)) :
    θ_run (defs (F := Ideal)) (onTc (τ := τ) (main (F := Ideal))) ⟨m, fun _ => 0, g⟩ fun r => ∀ c : Dev nD,
      r.2.mem ((c.tc : Thread nD τ).loc main_v0_0) = Ref.rDec (Ref.rPass (enc m c) (fin m c).zq)
        (arg m c main_arg5) (arg m c main_arg6) (arg m c main_arg7) (arg m c main_arg8) ∧
      r.2.mem ((c.tc : Thread nD τ).loc main_v0_1) = Ref.rCodes (Ref.codesAt (enc m c) (arg m c main_arg9)) ∧
      r.2.mem ((c.tc : Thread nD τ).loc main_v0_2) = (fin m c).ql ∧
      r.2.mem ((c.tc : Thread nD τ).loc main_v0_3) = (fin m c).us ∧
      r.2.mem ((c.tc : Thread nD τ).loc main_v0_4) = Ref.rPass (enc m c) (fin m c).zq ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) :=
  θ_run_mono (run m g) fun r h c => by
    have e0 := result0 m g c
    have e4 := result4 m g c
    rw [Level.zq_eq (hz c) (hX c)] at e0 e4
    exact ⟨(h c _ (mem_uc main_v0_0 (by decide))).trans e0,
      (h c _ (mem_uc main_v0_1 (by decide))).trans ((result1 m g c).trans (Level.out_codes_eq (hz c) (hX c))),
      (h c _ (mem_uc main_v0_2 (by decide))).trans ((result2 m g c).trans (Level.out_loss_eq (hz c) (hX c))),
      (h c _ (mem_uc main_v0_3 (by decide))).trans ((result3 m g c).trans (Level.out_usage_eq (hz c) (hX c))),
      (h c _ (mem_uc main_v0_4 (by decide))).trans e4,
      (h c _ (mem_uc main_arg0 (by decide))).trans (W6_main_arg0 m g c),
      (h c _ (mem_uc main_arg1 (by decide))).trans (W6_main_arg1 m g c),
      (h c _ (mem_uc main_arg2 (by decide))).trans (W6_main_arg2 m g c),
      (h c _ (mem_uc main_arg3 (by decide))).trans (W6_main_arg3 m g c),
      (h c _ (mem_uc main_arg4 (by decide))).trans (W6_main_arg4 m g c),
      (h c _ (mem_uc main_arg5 (by decide))).trans (W6_main_arg5 m g c),
      (h c _ (mem_uc main_arg6 (by decide))).trans (W6_main_arg6 m g c),
      (h c _ (mem_uc main_arg7 (by decide))).trans (W6_main_arg7 m g c),
      (h c _ (mem_uc main_arg8 (by decide))).trans (W6_main_arg8 m g c),
      (h c _ (mem_uc main_arg9 (by decide))).trans (W6_main_arg9 m g c)⟩

end Kernel

/-- The encoder's value depends on its arguments only. -/
theorem enc_congr {x x' : FVec Ideal Cert.ReferenceIdeal.S1024x32x256 .f32} {w1 w1' : FVec Ideal Cert.ReferenceIdeal.S8192x1024 .f32}
    {b1 b1' : FVec Ideal Cert.ReferenceIdeal.S1024 .f32} {w2 w2' : FVec Ideal Cert.ReferenceIdeal.S1024x256 .f32}
    {b2 b2' : FVec Ideal Cert.ReferenceIdeal.S256 .f32} (e0 : x = x') (e1 : w1 = w1') (e2 : b1 = b1') (e3 : w2 = w2') (e4 : b2 = b2') :
    Ref.rEnc x w1 b1 w2 b2 = Ref.rEnc x' w1' b1' w2' b2' := by
  rw [e0, e1, e2, e3, e4]

/-- The decoder's value depends on its arguments only. -/
theorem dec_congr {q : FVec Ideal Cert.ReferenceIdeal.S1024x256 .f32} {w1 w1' : FVec Ideal Cert.ReferenceIdeal.S256x1024 .f32}
    {b1 b1' : FVec Ideal Cert.ReferenceIdeal.S1024 .f32} {w2 w2' : FVec Ideal Cert.ReferenceIdeal.S1024x8192 .f32}
    {b2 b2' : FVec Ideal Cert.ReferenceIdeal.S8192 .f32} (e1 : w1 = w1') (e2 : b1 = b1') (e3 : w2 = w2') (e4 : b2 = b2') :
    Ref.rDec q w1 b1 w2 b2 = Ref.rDec q w1' b1' w2' b2' := by
  rw [e1, e2, e3, e4]

/-- The value claim: equal results on every device. -/
theorem algebraic : letI := Cert.KernelIdeal.Gen.facts; letI := Cert.ReferenceIdeal.Gen.facts; letI := Finite.facts
    Cert.algebraic_KernelIdeal_ReferenceIdeal_pre_finite := by
  letI := Finite.facts
  intro m g m' g' hp he
  have hr := fun c => Finite.real_args (hp c)
  have hz : ∀ c, Level.IsReal (enc m c) := fun c =>
    Level.enc_real (hr c).1 (hr c).2.1 (hr c).2.2.1 (hr c).2.2.2.1 (hr c).2.2.2.2.1
  refine ⟨_, _, _, _, _, kernel_vals m g hz fun c => (hr c).2.2.2.2.2, ?_⟩
  refine θ_run_mono (Ref.run_eqs m' g') fun r h c => ?_
  obtain ⟨W, hl, hW, hm⟩ := h.1 c
  obtain ⟨e0, e1, e2, e3, e4, e5, e6, e7, e8, e9⟩ := he c
  have low : ∀ b : Ref Cert.ReferenceIdeal.sig .tc, b.idx.val ≤ 9 →
      r.2.mem ((c.tc : Thread Cert.ReferenceIdeal.nD Cert.ReferenceIdeal.τ).loc b) = m' ((c.tc : Thread Cert.ReferenceIdeal.nD Cert.ReferenceIdeal.τ).loc b) :=
    fun b hb => (hW b).trans (hm b hb)
  have t : ∀ b : Ref Cert.ReferenceIdeal.sig .tc, b.idx.val ≤ 9 → ∀ {v},
      m' ((c.tc : Thread Cert.ReferenceIdeal.nD Cert.ReferenceIdeal.τ).loc b) = v → W (Proc.devRef .tc b) = v :=
    fun b hb _ h => (hm b hb).trans h
  have a0 := t Cert.ReferenceIdeal.main_arg0 (by decide) e0
  have a1 := t Cert.ReferenceIdeal.main_arg1 (by decide) e1
  have a2 := t Cert.ReferenceIdeal.main_arg2 (by decide) e2
  have a3 := t Cert.ReferenceIdeal.main_arg3 (by decide) e3
  have a4 := t Cert.ReferenceIdeal.main_arg4 (by decide) e4
  have a5 := t Cert.ReferenceIdeal.main_arg5 (by decide) e5
  have a6 := t Cert.ReferenceIdeal.main_arg6 (by decide) e6
  have a7 := t Cert.ReferenceIdeal.main_arg7 (by decide) e7
  have a8 := t Cert.ReferenceIdeal.main_arg8 (by decide) e8
  have a9 := t Cert.ReferenceIdeal.main_arg9 (by decide) e9
  obtain ⟨r0, r1, r2, r3, r4⟩ := Ref.main_vals hl (z := enc m c) (X := arg m c Cert.KernelIdeal.main_arg9)
    (enc_congr a0 a1 a2 a3 a4) a9
  exact ⟨(hW _).trans (r0.trans (dec_congr a5 a6 a7 a8)), (hW _).trans r1, (hW _).trans r2, (hW _).trans r3, (hW _).trans r4,
    low _ (by decide), low _ (by decide), low _ (by decide), low _ (by decide), low _ (by decide), low _ (by decide),
    low _ (by decide), low _ (by decide), low _ (by decide), low _ (by decide)⟩

end Cert.Agree
-- ==== Proof.lean ====
module

public import proofs.«01_k».proof.Defs
public import proofs.«01_k».proof.Proof.Gen.Kernel.Frame
public import proofs.«01_k».proof.Proof.Agree

@[expose] public section

/-! The claims of this directory, put together. -/

set_option maxRecDepth 16384

noncomputable section

namespace Cert.Proof

open Idealize.ShloMosaic Idealize.SL.Sem

/-- The reference ends with its ten arguments unchanged and every counter at zero. -/
theorem reference_frame : letI := Cert.ReferenceIdeal.Gen.facts; Cert.quiescent_ReferenceIdeal := fun m g _ =>
  θ_run_mono (Ref.frame m g) fun _ h => ⟨fun c => ⟨h.1 c _ (by decide), h.1 c _ (by decide), h.1 c _ (by decide), h.1 c _ (by decide),
    h.1 c _ (by decide), h.1 c _ (by decide), h.1 c _ (by decide), h.1 c _ (by decide), h.1 c _ (by decide), h.1 c _ (by decide)⟩, h.2⟩

/-- All the claims: the frames of the kernel, of its reading in extended reals and of the reference, and the equality of results. -/
theorem claim : Cert.Claim :=
  ⟨Cert.Kernel.Gen.facts, Cert.KernelIdeal.Gen.facts, Cert.ReferenceIdeal.Gen.facts, Finite.facts,
    fun m g _ => Cert.Kernel.Gen.frame m g, fun m g _ => Cert.KernelIdeal.Gen.frame m g, fun m g _ => Cert.KernelIdeal.Gen.frame m g,
    reference_frame, fun m g _ => reference_frame m g trivial, trivial, Agree.algebraic⟩

end Cert.Proof

end
